-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![512, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S512x128 : Shape := ⟨2, ![512, 128]⟩
abbrev S3x128x256 : Shape := ⟨3, ![3, 128, 256]⟩
abbrev S3x256x128 : Shape := ⟨3, ![3, 256, 128]⟩
abbrev S3x128x1024 : Shape := ⟨3, ![3, 128, 1024]⟩
abbrev S3x1024x128 : Shape := ⟨3, ![3, 1024, 128]⟩
abbrev S7 : Shape := ⟨1, ![7]⟩
abbrev S28 : Shape := ⟨1, ![28]⟩
abbrev S_ : Shape := ⟨0, ![]⟩
abbrev S1 : Shape := ⟨1, ![1]⟩
abbrev S1x128x256 : Shape := ⟨3, ![1, 128, 256]⟩
abbrev S1x256x128 : Shape := ⟨3, ![1, 256, 128]⟩
abbrev S64x128 : Shape := ⟨2, ![64, 128]⟩
abbrev S1x128x128 : Shape := ⟨3, ![1, 128, 128]⟩
abbrev S1x128x1024 : Shape := ⟨3, ![1, 128, 1024]⟩
abbrev S128x1024 : Shape := ⟨2, ![128, 1024]⟩
abbrev S512x1024 : Shape := ⟨2, ![512, 1024]⟩
abbrev S1x1024x128 : Shape := ⟨3, ![1, 1024, 128]⟩
abbrev S1024x128 : Shape := ⟨2, ![1024, 128]⟩

abbrev nBuf : Space → Nat
  | .hbm => 8
  | .vmem => 7
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S512x128, .bf16⟩
  | .local _ .vmem, ⟨0, _⟩ => ⟨S512x128, .bf16⟩
  | .local _ .vmem, ⟨1, _⟩ => ⟨S128x128, .f32⟩
  | .local _ .vmem, ⟨2, _⟩ => ⟨S3x128x256, .f32⟩
  | .local _ .vmem, ⟨3, _⟩ => ⟨S3x256x128, .f32⟩
  | .local _ .vmem, ⟨4, _⟩ => ⟨S512x128, .bf16⟩
  | .local _ .vmem, ⟨5, _⟩ => ⟨S3x128x1024, .bf16⟩
  | .local _ .vmem, ⟨6, _⟩ => ⟨S3x1024x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v46 : BitVec 32 := Scalar.muli v7 c1_i32_38
  let v47 : BitVec 32 := Scalar.addi c0_i32_39 v46
  v47.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_45 : BitVec 32 := 1#32
  let v54 : BitVec 32 := Scalar.muli v5 c1_i32_45
  let v55 : BitVec 32 := Scalar.addi c0_i32_46 v54
  v55.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v72 : BitVec 32 := Scalar.muli v7 c1_i32_64
  let v73 : BitVec 32 := Scalar.addi c0_i32_65 v72
  v73.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_73 : BitVec 32 := 1#32
  let v82 : BitVec 32 := Scalar.muli v5 c1_i32_73
  let v83 : BitVec 32 := Scalar.addi c0_i32_74 v82
  v83.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_92 : BitVec 32 := 1#32
  let v102 : BitVec 32 := Scalar.muli v7 c1_i32_92
  let v103 : BitVec 32 := Scalar.addi c0_i32_93 v102
  v103.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_102 : BitVec 32 := 1#32
  let v112 : BitVec 32 := Scalar.muli v5 c1_i32_102
  let v113 : BitVec 32 := Scalar.addi c0_i32_103 v112
  v113.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_121 : BitVec 32 := 1#32
  let v132 : BitVec 32 := Scalar.muli v7 c1_i32_121
  let v133 : BitVec 32 := Scalar.addi c0_i32_122 v132
  v133.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_130 : BitVec 32 := 1#32
  let v142 : BitVec 32 := Scalar.muli v5 c1_i32_130
  let v143 : BitVec 32 := Scalar.addi c0_i32_131 v142
  v143.toNat
def k0_dev11 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_149 : BitVec 32 := 1#32
  let v162 : BitVec 32 := Scalar.muli v7 c1_i32_149
  let v163 : BitVec 32 := Scalar.addi c0_i32_150 v162
  v163.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_158 : BitVec 32 := 1#32
  let v172 : BitVec 32 := Scalar.muli v5 c1_i32_158
  let v173 : BitVec 32 := Scalar.addi c0_i32_159 v172
  v173.toNat
def k0_dev13 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_176 : BitVec 32 := 1#32
  let v192 : BitVec 32 := Scalar.muli v7 c1_i32_176
  let v193 : BitVec 32 := Scalar.addi c0_i32_177 v192
  v193.toNat
def k0_dev14 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_185 : BitVec 32 := 1#32
  let v202 : BitVec 32 := Scalar.muli v5 c1_i32_185
  let v203 : BitVec 32 := Scalar.addi c0_i32_186 v202
  v203.toNat
def k0_dev15 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_204 : BitVec 32 := 1#32
  let v222 : BitVec 32 := Scalar.muli v7 c1_i32_204
  let v223 : BitVec 32 := Scalar.addi c0_i32_205 v222
  v223.toNat
def k0_dev16 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_213 : BitVec 32 := 1#32
  let v232 : BitVec 32 := Scalar.muli v5 c1_i32_213
  let v233 : BitVec 32 := Scalar.addi c0_i32_214 v232
  v233.toNat
def k0_dev17 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_228 : BitVec 32 := 1#32
  let v248 : BitVec 32 := Scalar.muli v7 c1_i32_228
  let v249 : BitVec 32 := Scalar.addi c0_i32_229 v248
  v249.toNat
def k0_dev18 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_243 : BitVec 32 := 1#32
  let v262 : BitVec 32 := Scalar.muli v5 c1_i32_243
  let v263 : BitVec 32 := Scalar.addi c0_i32_244 v262
  v263.toNat
def k0_dev19 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_260 : BitVec 32 := 1#32
  let v278 : BitVec 32 := Scalar.muli v7 c1_i32_260
  let v279 : BitVec 32 := Scalar.addi c0_i32_261 v278
  v279.toNat
def k0_dev20 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_278 : BitVec 32 := 1#32
  let v296 : BitVec 32 := Scalar.muli v5 c1_i32_278
  let v297 : BitVec 32 := Scalar.addi c0_i32_279 v296
  v297.toNat
def k0_dev21 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_296 : BitVec 32 := 1#32
  let v314 : BitVec 32 := Scalar.muli v7 c1_i32_296
  let v315 : BitVec 32 := Scalar.addi c0_i32_297 v314
  v315.toNat
def k0_dev22 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_315 : BitVec 32 := 1#32
  let v332 : BitVec 32 := Scalar.muli v5 c1_i32_315
  let v333 : BitVec 32 := Scalar.addi c0_i32_316 v332
  v333.toNat
def k0_dev23 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_334 : BitVec 32 := 1#32
  let v350 : BitVec 32 := Scalar.muli v7 c1_i32_334
  let v351 : BitVec 32 := Scalar.addi c0_i32_335 v350
  v351.toNat
def k0_dev24 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_353 : BitVec 32 := 1#32
  let v368 : BitVec 32 := Scalar.muli v5 c1_i32_353
  let v369 : BitVec 32 := Scalar.addi c0_i32_354 v368
  v369.toNat
def k0_dev25 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_372 : BitVec 32 := 1#32
  let v386 : BitVec 32 := Scalar.muli v7 c1_i32_372
  let v387 : BitVec 32 := Scalar.addi c0_i32_373 v386
  v387.toNat
def k0_dev26 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_391 : BitVec 32 := 1#32
  let v404 : BitVec 32 := Scalar.muli v5 c1_i32_391
  let v405 : BitVec 32 := Scalar.addi c0_i32_392 v404
  v405.toNat
def k0_dev27 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_410 : BitVec 32 := 1#32
  let v422 : BitVec 32 := Scalar.muli v7 c1_i32_410
  let v423 : BitVec 32 := Scalar.addi c0_i32_411 v422
  v423.toNat
def k0_dev28 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_429 : BitVec 32 := 1#32
  let v440 : BitVec 32 := Scalar.muli v5 c1_i32_429
  let v441 : BitVec 32 := Scalar.addi c0_i32_430 v440
  v441.toNat
def k0_dev29 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_448 : BitVec 32 := 1#32
  let v458 : BitVec 32 := Scalar.muli v7 c1_i32_448
  let v459 : BitVec 32 := Scalar.addi c0_i32_449 v458
  v459.toNat
def k0_dev30 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_467 : BitVec 32 := 1#32
  let v476 : BitVec 32 := Scalar.muli v5 c1_i32_467
  let v477 : BitVec 32 := Scalar.addi c0_i32_468 v476
  v477.toNat
def k0_off1 (d0 : Dev nD) (c0_i32_637 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v625 : BitVec 32 := Scalar.addi v2 c0_i32_637
  let c4_i32_638 : BitVec 32 := 4#32
  let v626 : BitVec 32 := Scalar.remsi v625 c4_i32_638
  let c128_i32_639 : BitVec 32 := 128#32
  let v628 : BitVec 32 := Scalar.muli v626 c128_i32_639
  let v629 : Index := Scalar.indexCast v628
  let c0_640 : Index := 0#32
  ![v629.toNat, 0]
abbrev stage0_0 : Fin 1 → Memref sig .tc .vmem S512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x128 : Shape := ⟨2, ![512, 128]⟩
abbrev S128x1024 : Shape := ⟨2, ![128, 1024]⟩
abbrev S1024x128 : Shape := ⟨2, ![1024, 128]⟩
abbrev S512x1024 : Shape := ⟨2, ![512, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S128x1024, .f32⟩
  | .hbm, ⟨2, _⟩ => ⟨S1024x128, .f32⟩
  | .hbm, ⟨3, _⟩ => ⟨S128x1024, .f32⟩
  | .hbm, ⟨4, _⟩ => ⟨S1024x128, .f32⟩
  | .hbm, ⟨5, _⟩ => ⟨S128x1024, .f32⟩
  | .hbm, ⟨6, _⟩ => ⟨S1024x128, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x128, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x128, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x128, .f32⟩
  | .hbm, ⟨22, _⟩ => ⟨S512x128, .bf16⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.Pieces.lean ====
/-
The pieces of the gather: which rows or columns of which buffer each remote copy reads and writes, and what each
buffer holds when the gather is done.

Seven arrays are gathered: `x`, and for each of the three layers its input weights `wi l` and output weights `wo l`.
Each is held by every device in four chunks; the chunk at position `k` of device `c` is the block of device `c + k`
(mod 4). The last hop moves half chunks.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]

/-! ## Devices -/

/-- The device `k` places further round the ring. -/
def dv (c : Dev nD) (k : ℕ) : Dev nD := ⟨(c.val + k) % 4, Nat.mod_lt _ (by decide)⟩

/-- The next device, and the one before. -/
abbrev nxt (c : Dev nD) : Dev nD := dv c 1
abbrev prv (c : Dev nD) : Dev nD := dv c 3

theorem dv_dv (c : Dev nD) (a b : ℕ) : dv (dv c a) b = dv c (a + b) := by
  apply Fin.ext; simp only [dv]; omega

theorem dv_mod (c : Dev nD) (a : ℕ) : dv c (a + 4) = dv c a := by
  apply Fin.ext; simp only [dv]; omega

theorem dv_zero (c : Dev nD) : dv c 0 = c := by
  apply Fin.ext; have h : c.val < 4 := c.isLt; simp only [dv]; omega

theorem prv_nxt (c : Dev nD) : prv (nxt c) = c := by
  exact (dv_dv c _ _).trans ((dv_mod c 0).trans (dv_zero c))
theorem nxt_prv (c : Dev nD) : nxt (prv c) = c := by
  exact (dv_dv c _ _).trans ((dv_mod c 0).trans (dv_zero c))

/-- The ring as a permutation of the devices. -/
def ring : Dev nD ≃ Dev nD := ⟨nxt, prv, prv_nxt, nxt_prv⟩

/-! ## The arrays gathered -/

/-- The seven arrays: `x`, the input weights of a layer, the output weights of a layer. -/
inductive Tens
  | x
  | wi (l : Fin 3)
  | wo (l : Fin 3)
deriving DecidableEq

/-- The arrays in the order the kernel handles them. -/
def tens : Fin 7 → Tens := ![.x, .wi 0, .wo 0, .wi 1, .wo 1, .wi 2, .wo 2]

/-- A chunk's and a half chunk's shape. -/
def cs : Tens → Shape
  | .x => S128x128
  | .wi _ => S128x256
  | .wo _ => S256x128
def hs : Tens → Shape
  | .x => S64x128
  | .wi _ => S128x128
  | .wo _ => S128x128

/-- The buffer an array is gathered in. -/
def gbuf : Tens → Ref sig .tc
  | .x => cc0_scratch3
  | .wi _ => cc0_scratch4
  | .wo _ => cc0_scratch5

theorem inbX (k : Fin 4) : ∀ a, (![k.val * 128, 0] : Fin 2 → Nat) a + S128x128.size a ≤ S512x128.size a := by
  revert k; decide
theorem inbWi (l : Fin 3) (k : Fin 4) :
    ∀ a, (![l.val, 0, k.val * 256] : Fin 3 → Nat) a + S1x128x256.size a ≤ S3x128x1024.size a := by
  revert l k; decide
theorem inbWo (l : Fin 3) (k : Fin 4) :
    ∀ a, (![l.val, k.val * 256, 0] : Fin 3 → Nat) a + S1x256x128.size a ≤ S3x1024x128.size a := by
  revert l k; decide
theorem inbXh (k : Fin 4) (h : Fin 2) :
    ∀ a, (![k.val * 128 + h.val * 64, 0] : Fin 2 → Nat) a + S64x128.size a ≤ S512x128.size a := by
  revert k h; decide
theorem inbWih (l : Fin 3) (k : Fin 4) (h : Fin 2) :
    ∀ a, (![l.val, 0, k.val * 256 + h.val * 128] : Fin 3 → Nat) a + S1x128x128.size a ≤ S3x128x1024.size a := by
  revert l k h; decide
theorem inbWoh (l : Fin 3) (k : Fin 4) (h : Fin 2) :
    ∀ a, (![l.val, k.val * 256 + h.val * 128, 0] : Fin 3 → Nat) a + S1x128x128.size a ≤ S3x1024x128.size a := by
  revert l k h; decide

/-- The memref of the chunk at position `k`. -/
def chM : (t : Tens) → Fin 4 → Memref sig .tc .vmem (cs t) .bf16
  | .x, k => (Memref.whole cc0_scratch3).slice (Rect.unit (s := S512x128) ![k.val * 128, 0] S128x128.size (inbX k)) (fun _ => rfl)
  | .wi l, k => ((Memref.whole cc0_scratch4).slice (Rect.unit (s := S3x128x1024) ![l.val, 0, k.val * 256] S1x128x256.size (inbWi l k)) (fun _ => rfl)).squeeze
      S128x256 squeezes_S1x128x256_S128x256
  | .wo l, k => ((Memref.whole cc0_scratch5).slice (Rect.unit (s := S3x1024x128) ![l.val, k.val * 256, 0] S1x256x128.size (inbWo l k)) (fun _ => rfl)).squeeze
      S256x128 squeezes_S1x256x128_S256x128

/-- The memref of half `h` of the chunk at position `k`. -/
def hfM : (t : Tens) → Fin 4 → Fin 2 → Memref sig .tc .vmem (hs t) .bf16
  | .x, k, h => (Memref.whole cc0_scratch3).slice (Rect.unit (s := S512x128) ![k.val * 128 + h.val * 64, 0] S64x128.size (inbXh k h)) (fun _ => rfl)
  | .wi l, k, h => ((Memref.whole cc0_scratch4).slice (Rect.unit (s := S3x128x1024) ![l.val, 0, k.val * 256 + h.val * 128] S1x128x128.size (inbWih l k h)) (fun _ => rfl)).squeeze
      S128x128 squeezes_S1x128x128_S128x128
  | .wo l, k, h => ((Memref.whole cc0_scratch5).slice (Rect.unit (s := S3x1024x128) ![l.val, k.val * 256 + h.val * 128, 0] S1x128x128.size (inbWoh l k h)) (fun _ => rfl)).squeeze
      S128x128 squeezes_S1x128x128_S128x128

/-! ## The elements of a chunk, of a half chunk, of an array -/

/-- The layer, the position and the half an element of a gather buffer lies in. -/
def lay : (t : Tens) → (gbuf t).ty.Idx → ℕ
  | .x, i => 0
  | .wi _, (i : S3x128x1024.Idx) => (i 0).val
  | .wo _, (i : S3x1024x128.Idx) => (i 0).val
def pos : (t : Tens) → (gbuf t).ty.Idx → ℕ
  | .x, (i : S512x128.Idx) => (i 0).val / 128
  | .wi _, (i : S3x128x1024.Idx) => (i 2).val / 256
  | .wo _, (i : S3x1024x128.Idx) => (i 1).val / 256
def hlf : (t : Tens) → (gbuf t).ty.Idx → ℕ
  | .x, (i : S512x128.Idx) => (i 0).val / 64 % 2
  | .wi _, (i : S3x128x1024.Idx) => (i 2).val / 128 % 2
  | .wo _, (i : S3x1024x128.Idx) => (i 1).val / 128 % 2
/-- The layer of an array (`x` has only one, numbered 0). -/
def tlay : Tens → ℕ
  | .x => 0
  | .wi l => l.val
  | .wo l => l.val

/-- The elements of an array in its buffer, of a chunk, of a half chunk. -/
def tSet (t : Tens) : Finset (gbuf t).ty.Idx := Finset.univ.filter fun i => lay t i = tlay t
def cSet (t : Tens) (k : Fin 4) : Finset (gbuf t).ty.Idx := Finset.univ.filter fun i => lay t i = tlay t ∧ pos t i = k.val
def hSet (t : Tens) (k : Fin 4) (h : Fin 2) : Finset (gbuf t).ty.Idx :=
  Finset.univ.filter fun i => lay t i = tlay t ∧ pos t i = k.val ∧ hlf t i = h.val

theorem mem_tSet (t : Tens) (i : (gbuf t).ty.Idx) : i ∈ tSet t ↔ lay t i = tlay t := by simp [tSet]
theorem mem_cSet (t : Tens) (k : Fin 4) (i : (gbuf t).ty.Idx) : i ∈ cSet t k ↔ lay t i = tlay t ∧ pos t i = k.val := by simp [cSet]
theorem mem_hSet (t : Tens) (k : Fin 4) (h : Fin 2) (i : (gbuf t).ty.Idx) :
    i ∈ hSet t k h ↔ lay t i = tlay t ∧ pos t i = k.val ∧ hlf t i = h.val := by simp [hSet]

theorem pos_lt (t : Tens) (i : (gbuf t).ty.Idx) : pos t i < 4 := by
  cases t with
  | x => have h := (show S512x128.Idx from i) 0 |>.isLt; exact Nat.div_lt_of_lt_mul h
  | wi l => have h := (show S3x128x1024.Idx from i) 2 |>.isLt; exact Nat.div_lt_of_lt_mul h
  | wo l => have h := (show S3x1024x128.Idx from i) 1 |>.isLt; exact Nat.div_lt_of_lt_mul h
theorem hlf_lt (t : Tens) (i : (gbuf t).ty.Idx) : hlf t i < 2 := by
  cases t <;> exact Nat.mod_lt _ (by decide)

/-- An index lies in a rank-2, rank-3 unit rectangle when each coordinate does. -/
theorem mem_unit2 {d : Fin 2 → ℕ} {off size : Fin 2 → ℕ} (inb : ∀ a, off a + size a ≤ (⟨2, d⟩ : Shape).size a) (i : (⟨2, d⟩ : Shape).Idx) :
    i ∈ (Rect.unit (s := ⟨2, d⟩) off size inb).set ↔
      (off 0 ≤ (i 0).val ∧ (i 0).val < off 0 + size 0) ∧ (off 1 ≤ (i 1).val ∧ (i 1).val < off 1 + size 1) := by
  rw [Rect.mem_set_unit]; exact Fin.forall_fin_two
theorem mem_unit3 {d : Fin 3 → ℕ} {off size : Fin 3 → ℕ} (inb : ∀ a, off a + size a ≤ (⟨3, d⟩ : Shape).size a) (i : (⟨3, d⟩ : Shape).Idx) :
    i ∈ (Rect.unit (s := ⟨3, d⟩) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit, Fin.forall_fin_succ, Fin.forall_fin_two]; rfl

theorem rectX_set (k : Fin 4) : (Rect.unit (s := S512x128) ![k.val * 128, 0] S128x128.size (inbX k)).set = cSet .x k := by
  refine Finset.ext fun (i : S512x128.Idx) => ?_
  have h0 : (i 0).val < 512 := (i 0).isLt
  have h1 : (i 1).val < 128 := (i 1).isLt
  refine (mem_unit2 (inbX k) i).trans (Iff.trans ?_ (mem_cSet .x k i).symm)
  show (k.val * 128 ≤ (i 0).val ∧ (i 0).val < k.val * 128 + 128) ∧ (0 ≤ (i 1).val ∧ (i 1).val < 0 + 128) ↔ 0 = 0 ∧ (i 0).val / 128 = k.val
  omega
theorem rectWi_set (l : Fin 3) (k : Fin 4) :
    (Rect.unit (s := S3x128x1024) ![l.val, 0, k.val * 256] S1x128x256.size (inbWi l k)).set = cSet (.wi l) k := by
  refine Finset.ext fun (i : S3x128x1024.Idx) => ?_
  have h0 : (i 0).val < 3 := (i 0).isLt
  have h1 : (i 1).val < 128 := (i 1).isLt
  have h2 : (i 2).val < 1024 := (i 2).isLt
  refine (mem_unit3 (inbWi l k) i).trans (Iff.trans ?_ (mem_cSet (.wi l) k i).symm)
  show (l.val ≤ (i 0).val ∧ (i 0).val < l.val + 1) ∧ (0 ≤ (i 1).val ∧ (i 1).val < 0 + 128) ∧ (k.val * 256 ≤ (i 2).val ∧ (i 2).val < k.val * 256 + 256)
    ↔ (i 0).val = l.val ∧ (i 2).val / 256 = k.val
  omega
theorem rectWo_set (l : Fin 3) (k : Fin 4) :
    (Rect.unit (s := S3x1024x128) ![l.val, k.val * 256, 0] S1x256x128.size (inbWo l k)).set = cSet (.wo l) k := by
  refine Finset.ext fun (i : S3x1024x128.Idx) => ?_
  have h0 : (i 0).val < 3 := (i 0).isLt
  have h1 : (i 1).val < 1024 := (i 1).isLt
  have h2 : (i 2).val < 128 := (i 2).isLt
  refine (mem_unit3 (inbWo l k) i).trans (Iff.trans ?_ (mem_cSet (.wo l) k i).symm)
  show (l.val ≤ (i 0).val ∧ (i 0).val < l.val + 1) ∧ (k.val * 256 ≤ (i 1).val ∧ (i 1).val < k.val * 256 + 256) ∧ (0 ≤ (i 2).val ∧ (i 2).val < 0 + 128)
    ↔ (i 0).val = l.val ∧ (i 1).val / 256 = k.val
  omega
theorem rectXh_set (k : Fin 4) (h : Fin 2) :
    (Rect.unit (s := S512x128) ![k.val * 128 + h.val * 64, 0] S64x128.size (inbXh k h)).set = hSet .x k h := by
  refine Finset.ext fun (i : S512x128.Idx) => ?_
  have h0 : (i 0).val < 512 := (i 0).isLt
  have h1 : (i 1).val < 128 := (i 1).isLt
  refine (mem_unit2 (inbXh k h) i).trans (Iff.trans ?_ (mem_hSet .x k h i).symm)
  show (k.val * 128 + h.val * 64 ≤ (i 0).val ∧ (i 0).val < k.val * 128 + h.val * 64 + 64) ∧ (0 ≤ (i 1).val ∧ (i 1).val < 0 + 128)
    ↔ 0 = 0 ∧ (i 0).val / 128 = k.val ∧ (i 0).val / 64 % 2 = h.val
  omega
theorem rectWih_set (l : Fin 3) (k : Fin 4) (h : Fin 2) :
    (Rect.unit (s := S3x128x1024) ![l.val, 0, k.val * 256 + h.val * 128] S1x128x128.size (inbWih l k h)).set = hSet (.wi l) k h := by
  refine Finset.ext fun (i : S3x128x1024.Idx) => ?_
  have h0 : (i 0).val < 3 := (i 0).isLt
  have h1 : (i 1).val < 128 := (i 1).isLt
  have h2 : (i 2).val < 1024 := (i 2).isLt
  refine (mem_unit3 (inbWih l k h) i).trans (Iff.trans ?_ (mem_hSet (.wi l) k h i).symm)
  show (l.val ≤ (i 0).val ∧ (i 0).val < l.val + 1) ∧ (0 ≤ (i 1).val ∧ (i 1).val < 0 + 128)
      ∧ (k.val * 256 + h.val * 128 ≤ (i 2).val ∧ (i 2).val < k.val * 256 + h.val * 128 + 128)
    ↔ (i 0).val = l.val ∧ (i 2).val / 256 = k.val ∧ (i 2).val / 128 % 2 = h.val
  omega
theorem rectWoh_set (l : Fin 3) (k : Fin 4) (h : Fin 2) :
    (Rect.unit (s := S3x1024x128) ![l.val, k.val * 256 + h.val * 128, 0] S1x128x128.size (inbWoh l k h)).set = hSet (.wo l) k h := by
  refine Finset.ext fun (i : S3x1024x128.Idx) => ?_
  have h0 : (i 0).val < 3 := (i 0).isLt
  have h1 : (i 1).val < 1024 := (i 1).isLt
  have h2 : (i 2).val < 128 := (i 2).isLt
  refine (mem_unit3 (inbWoh l k h) i).trans (Iff.trans ?_ (mem_hSet (.wo l) k h i).symm)
  show (l.val ≤ (i 0).val ∧ (i 0).val < l.val + 1) ∧ (k.val * 256 + h.val * 128 ≤ (i 1).val ∧ (i 1).val < k.val * 256 + h.val * 128 + 128)
      ∧ (0 ≤ (i 2).val ∧ (i 2).val < 0 + 128)
    ↔ (i 0).val = l.val ∧ (i 1).val / 256 = k.val ∧ (i 1).val / 128 % 2 = h.val
  omega

/-! ## The same pieces as a transfer names them -/

/-- The location of an array's gather buffer on device `c`. -/
abbrev gloc (t : Tens) (c : Dev nD) : Loc nD τ sig := (c : Thread nD τ).loc (gbuf t)

theorem chM_loc (t : Tens) (k : Fin 4) (c : Dev nD) : (chM t k).view.loc (c : Thread nD τ) = gloc t c := by
  cases t <;> rfl
theorem hfM_loc (t : Tens) (k : Fin 4) (h : Fin 2) (c : Dev nD) : (hfM t k h).view.loc (c : Thread nD τ) = gloc t c := by
  cases t <;> rfl

end Cert.Gather

end
-- ==== Proof.Contents.lean ====
/-
What the buffers hold: each device's blocks as the kernel casts them, and the gathered arrays made of them.
-/
module

public import proofs.«01_k».proof.Proof.Pieces
public import Idealize.ShloMosaic.Lib.Pipeline.ValueKit

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.Sem

variable {F : FTy → Type} [FloatOps F]
variable (m : (ℓ : Loc nD τ sig) → Buf (Elt F) ℓ)

/-! ## A device's own blocks -/

/-- The blocks of `x` and of a layer's weights device `c` is given. -/
def ax (c : Dev nD) : S128x128.Idx → F .f32 := m ((c : Thread nD τ).loc main_arg0)
def awi : Fin 3 → Dev nD → S128x256.Idx → F .f32
  | 0, c => m ((c : Thread nD τ).loc main_arg1)
  | 1, c => m ((c : Thread nD τ).loc main_arg3)
  | 2, c => m ((c : Thread nD τ).loc main_arg5)
def awo : Fin 3 → Dev nD → S256x128.Idx → F .f32
  | 0, c => m ((c : Thread nD τ).loc main_arg2)
  | 1, c => m ((c : Thread nD τ).loc main_arg4)
  | 2, c => m ((c : Thread nD τ).loc main_arg6)

/-- Device `c`'s block of an array, cast to the width it is gathered in. -/
def blk : (t : Tens) → Dev nD → (cs t).Idx → Elt F .bf16
  | .x, c => (truncf .bf16 (ax m c : FVec F S128x128 .f32) bitsLt_bf16_f32 : FVec F S128x128 .bf16)
  | .wi l, c => (truncf .bf16 (awi m l c : FVec F S128x256 .f32) bitsLt_bf16_f32 : FVec F S128x256 .bf16)
  | .wo l, c => (truncf .bf16 (awo m l c : FVec F S256x128 .f32) bitsLt_bf16_f32 : FVec F S256x128 .bf16)

/-- Half `h` of a block. -/
def hblk : (t : Tens) → Dev nD → Fin 2 → (hs t).Idx → Elt F .bf16
  | .x, c, h => fun y : S64x128.Idx => blk m .x c (ix2 (n0 := 128) ⟨h.val * 64 + (y 0).val, by have : (y 0).val < 64 := (y 0).isLt; omega⟩ (y 1))
  | .wi l, c, h => fun y : S128x128.Idx => blk m (.wi l) c (ix2 (n1 := 256) (y 0) ⟨h.val * 128 + (y 1).val, by have : (y 1).val < 128 := (y 1).isLt; omega⟩)
  | .wo l, c, h => fun y : S128x128.Idx => blk m (.wo l) c (ix2 (n0 := 256) ⟨h.val * 128 + (y 0).val, by have : (y 0).val < 128 := (y 0).isLt; omega⟩ (y 1))

/-! ## The gathered arrays

At position `k` device `c` holds the block of device `c + k`. -/

def gX (c : Dev nD) : S512x128.Idx → Elt F .bf16 := fun i =>
  blk m .x (dv c ((i 0).val / 128)) (ix2 (n0 := 128) ⟨(i 0).val % 128, Nat.mod_lt _ (by decide)⟩ (i 1))
def gWi (c : Dev nD) : S3x128x1024.Idx → Elt F .bf16 := fun i =>
  blk m (.wi (i 0)) (dv c ((i 2).val / 256)) (ix2 (n1 := 256) (i 1) ⟨(i 2).val % 256, Nat.mod_lt _ (by decide)⟩)
def gWo (c : Dev nD) : S3x1024x128.Idx → Elt F .bf16 := fun i =>
  blk m (.wo (i 0)) (dv c ((i 1).val / 256)) (ix2 (n0 := 256) ⟨(i 1).val % 256, Nat.mod_lt _ (by decide)⟩ (i 2))

/-- The gathered contents of an array's buffer; the same, as contents of a chunk's and of a half chunk's memref. -/
def gat : (t : Tens) → (c : Dev nD) → Buf (Elt F) (gloc t c)
  | .x, c => gX m c
  | .wi _, c => gWi m c
  | .wo _, c => gWo m c
def chG : (t : Tens) → (k : Fin 4) → (c : Dev nD) → Buf (Elt F) ((chM t k).view.loc (c : Thread nD τ))
  | .x, _, c => gX m c
  | .wi _, _, c => gWi m c
  | .wo _, _, c => gWo m c
def hfG : (t : Tens) → (k : Fin 4) → (h : Fin 2) → (c : Dev nD) → Buf (Elt F) ((hfM t k h).view.loc (c : Thread nD τ))
  | .x, _, _, c => gX m c
  | .wi _, _, _, c => gWi m c
  | .wo _, _, _, c => gWo m c

/-! ## Reading a piece of the gathered arrays -/

theorem blk_x_congr {c c' : Dev nD} {a a' : Fin 128} {b : Fin 128} (hc : c = c') (ha : a = a') :
    blk m .x c (ix2 a b) = blk m .x c' (ix2 a' b) := by rw [hc, ha]
theorem blk_wi_congr {l l' : Fin 3} {c c' : Dev nD} {a : Fin 128} {b b' : Fin 256} (hl : l = l') (hc : c = c') (hb : b = b') :
    blk m (.wi l) c (ix2 a b) = blk m (.wi l') c' (ix2 a b') := by subst hl; rw [hc, hb]
theorem blk_wo_congr {l l' : Fin 3} {c c' : Dev nD} {a a' : Fin 256} {b : Fin 128} (hl : l = l') (hc : c = c') (ha : a = a') :
    blk m (.wo l) c (ix2 a b) = blk m (.wo l') c' (ix2 a' b) := by subst hl; rw [hc, ha]

/-- The gathered `x` at row `k·128 + a`; the gathered weights at layer `l`, column (row) `k·256 + b`. -/
theorem gX_at (c : Dev nD) (k : ℕ) (i : S512x128.Idx) (a b : Fin 128) (h0 : (i 0).val = k * 128 + a.val) (h1 : (i 1).val = b.val) :
    gX m c i = blk m .x (dv c k) (ix2 a b) := by
  have e1 : i 1 = b := Fin.ext h1
  show blk m .x _ (ix2 _ (i 1)) = _
  rw [e1]
  have ha := a.isLt
  exact blk_x_congr m (congrArg (dv c) (by omega)) (Fin.ext (show (i 0).val % 128 = a.val by omega))
theorem gWi_at (c : Dev nD) (l : Fin 3) (k : ℕ) (i : S3x128x1024.Idx) (a : Fin 128) (b : Fin 256)
    (hl : (i 0).val = l.val) (h1 : (i 1).val = a.val) (h2 : (i 2).val = k * 256 + b.val) :
    gWi m c i = blk m (.wi l) (dv c k) (ix2 a b) := by
  have e1 : i 1 = a := Fin.ext h1
  show blk m (.wi (i 0)) _ (ix2 (i 1) _) = _
  rw [e1]
  have hb := b.isLt
  exact blk_wi_congr m (Fin.ext hl) (congrArg (dv c) (by omega)) (Fin.ext (show (i 2).val % 256 = b.val by omega))
theorem gWo_at (c : Dev nD) (l : Fin 3) (k : ℕ) (i : S3x1024x128.Idx) (a : Fin 256) (b : Fin 128)
    (hl : (i 0).val = l.val) (h1 : (i 1).val = k * 256 + a.val) (h2 : (i 2).val = b.val) :
    gWo m c i = blk m (.wo l) (dv c k) (ix2 a b) := by
  have e1 : i 2 = b := Fin.ext h2
  show blk m (.wo (i 0)) _ (ix2 _ (i 2)) = _
  rw [e1]
  have ha := a.isLt
  exact blk_wo_congr m (Fin.ext hl) (congrArg (dv c) (by omega)) (Fin.ext (show (i 1).val % 256 = a.val by omega))

/-- A squeezed unit slice reads, at `(i, j)`, its buffer's contents at the offsets plus `(0, i, j)`. -/
theorem read_sq {n0 n1 n2 p q : ℕ} {e : EltTy} (M : Memref sig .tc .vmem ⟨3, ![n0, n1, n2]⟩ e) (off : Fin 3 → ℕ)
    (inb : ∀ a, off a + (⟨3, ![1, p, q]⟩ : Shape).size a ≤ (⟨3, ![n0, n1, n2]⟩ : Shape).size a)
    (hq : (⟨3, ![1, p, q]⟩ : Shape).Squeezes ⟨2, ![p, q]⟩) (f : M.view.ty.Contents (Elt F)) (y : (⟨2, ![p, q]⟩ : Shape).Idx) :
    ((M.slice (Rect.unit (s := ⟨3, ![n0, n1, n2]⟩) off (⟨3, ![1, p, q]⟩ : Shape).size inb) (fun _ => rfl)).squeeze ⟨2, ![p, q]⟩ hq).view.read (Elt F) f y
      = M.view.read (Elt F) f ((Rect.unit (s := ⟨3, ![n0, n1, n2]⟩) off (⟨3, ![1, p, q]⟩ : Shape).size inb).emb (ix3 (0 : Fin 1) (y 0) (y 1))) := by
  have hy : y = ix2 (y 0) (y 1) := by funext a; fin_cases a <;> rfl
  rw [Memref.read_squeeze_slice M _ (fun _ => rfl) hq hq.numel_eq f]
  have h1 := shapeCast_1ab_ab_apply (M.view.readAt (Elt F) (Rect.unit (s := ⟨3, ![n0, n1, n2]⟩) off (⟨3, ![1, p, q]⟩ : Shape).size inb).toLoadRect f)
    hq.numel_eq (y 0) (y 1)
  refine (congrArg _ hy).trans (h1.trans ?_)
  rw [View.readAt_rect]; rfl

/-- A chunk of the gathered array reads as the block of the device it came from. -/
theorem read_ch (t : Tens) (k : Fin 4) (c : Dev nD) : (chM t k).view.read (Elt F) (chG m t k c) = blk m t (dv c k.val) := by
  cases t with
  | x =>
    funext (y : S128x128.Idx)
    have hy : y = ix2 (y 0) (y 1) := by funext a; fin_cases a <;> rfl
    refine (gX_at m c k.val ((Rect.unit (s := S512x128) ![k.val * 128, 0] S128x128.size (inbX k)).emb y) (y 0) (y 1) ?_ ?_).trans (congrArg (blk m .x (dv c k.val)) hy.symm)
    · exact ValueKit.rect_emb_unit_val _ _ _ _ _
    · exact (ValueKit.rect_emb_unit_val _ _ _ _ _).trans (Nat.zero_add _)
  | wi l =>
    funext (y : S128x256.Idx)
    have hy : y = ix2 (y 0) (y 1) := by funext a; fin_cases a <;> rfl
    refine (read_sq (Memref.whole cc0_scratch4) _ (inbWi l k) squeezes_S1x128x256_S128x256 (gWi m c) y).trans ?_
    refine (gWi_at m c l k.val _ (y 0) (y 1) ?_ ?_ ?_).trans (congrArg (blk m (.wi l) (dv c k.val)) hy.symm)
    · exact (ValueKit.rect_emb_unit_val _ _ _ _ _).trans (Nat.add_zero _)
    · exact (ValueKit.rect_emb_unit_val _ _ _ _ _).trans (Nat.zero_add _)
    · exact ValueKit.rect_emb_unit_val _ _ _ _ _
  | wo l =>
    funext (y : S256x128.Idx)
    have hy : y = ix2 (y 0) (y 1) := by funext a; fin_cases a <;> rfl
    refine (read_sq (Memref.whole cc0_scratch5) _ (inbWo l k) squeezes_S1x256x128_S256x128 (gWo m c) y).trans ?_
    refine (gWo_at m c l k.val _ (y 0) (y 1) ?_ ?_ ?_).trans (congrArg (blk m (.wo l) (dv c k.val)) hy.symm)
    · exact (ValueKit.rect_emb_unit_val _ _ _ _ _).trans (Nat.add_zero _)
    · exact ValueKit.rect_emb_unit_val _ _ _ _ _
    · exact (ValueKit.rect_emb_unit_val _ _ _ _ _).trans (Nat.zero_add _)

/-- A half chunk of the gathered array reads as the half block of the device it came from. -/
theorem read_hf (t : Tens) (k : Fin 4) (h : Fin 2) (c : Dev nD) :
    (hfM t k h).view.read (Elt F) (hfG m t k h c) = hblk m t (dv c k.val) h := by
  cases t with
  | x =>
    funext (y : S64x128.Idx)
    refine gX_at m c k.val ((Rect.unit (s := S512x128) ![k.val * 128 + h.val * 64, 0] S64x128.size (inbXh k h)).emb y) ⟨h.val * 64 + (y 0).val, _⟩ (y 1) ?_ ?_
    · exact (ValueKit.rect_emb_unit_val _ _ _ _ _).trans (Nat.add_assoc _ _ _)
    · exact (ValueKit.rect_emb_unit_val _ _ _ _ _).trans (Nat.zero_add _)
  | wi l =>
    funext (y : S128x128.Idx)
    refine (read_sq (Memref.whole cc0_scratch4) _ (inbWih l k h) squeezes_S1x128x128_S128x128 (gWi m c) y).trans ?_
    refine gWi_at m c l k.val _ (y 0) ⟨h.val * 128 + (y 1).val, _⟩ ?_ ?_ ?_
    · exact (ValueKit.rect_emb_unit_val _ _ _ _ _).trans (Nat.add_zero _)
    · exact (ValueKit.rect_emb_unit_val _ _ _ _ _).trans (Nat.zero_add _)
    · exact (ValueKit.rect_emb_unit_val _ _ _ _ _).trans (Nat.add_assoc _ _ _)
  | wo l =>
    funext (y : S128x128.Idx)
    refine (read_sq (Memref.whole cc0_scratch5) _ (inbWoh l k h) squeezes_S1x128x128_S128x128 (gWo m c) y).trans ?_
    refine gWo_at m c l k.val _ ⟨h.val * 128 + (y 0).val, _⟩ (y 1) ?_ ?_ ?_
    · exact (ValueKit.rect_emb_unit_val _ _ _ _ _).trans (Nat.add_zero _)
    · exact (ValueKit.rect_emb_unit_val _ _ _ _ _).trans (Nat.add_assoc _ _ _)
    · exact (ValueKit.rect_emb_unit_val _ _ _ _ _).trans (Nat.zero_add _)

end Cert.Gather

end
-- ==== Proof.Schedule.lean ====
/-
The protocol: the transfers in the order the kernel makes them, the semaphore cells, what each cell's one round hands
its waiter, and what each device owes.
-/
module

public import proofs.«01_k».proof.Proof.Contents

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's part and the transfers' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The pieces as assertions -/

/-- Share `q` of the gathered contents of a chunk, of a half chunk, on device `c`. -/
def cPts (t : Tens) (k : Fin 4) (c : Dev nD) (q : PosShare TreeShare) : sProp 𝕄 := gloc t c ↦[cSet t k]{q} gat m t c
def hPts (t : Tens) (k : Fin 4) (h : Fin 2) (c : Dev nD) (q : PosShare TreeShare) : sProp 𝕄 := gloc t c ↦[hSet t k h]{q} gat m t c
/-- A chunk, a half chunk, holding anything. -/
def cAny (t : Tens) (k : Fin 4) (c : Dev nD) : sProp 𝕄 := iprop(∃ f : Buf (Elt F) (gloc t c), gloc t c ↦[cSet t k]{fullShare} f)
def hAny (t : Tens) (k : Fin 4) (h : Fin 2) (c : Dev nD) : sProp 𝕄 := iprop(∃ f : Buf (Elt F) (gloc t c), gloc t c ↦[hSet t k h]{fullShare} f)

instance cPts_storable (t : Tens) (k : Fin 4) (c : Dev nD) (q) : BI.Storable (upEmb : UEmb _ 𝕄) (cPts m t k c q) := by unfold cPts; infer_instance
instance hPts_storable (t : Tens) (k : Fin 4) (h : Fin 2) (c : Dev nD) (q) : BI.Storable (upEmb : UEmb _ 𝕄) (hPts m t k h c q) := by
  unfold hPts; infer_instance
instance cAny_storable (t : Tens) (k : Fin 4) (c : Dev nD) : BI.Storable (upEmb : UEmb _ 𝕄) (cAny (F := F) t k c) := by unfold cAny; infer_instance
instance hAny_storable (t : Tens) (k : Fin 4) (h : Fin 2) (c : Dev nD) : BI.Storable (upEmb : UEmb _ 𝕄) (hAny (F := F) t k h c) := by
  unfold hAny; infer_instance

theorem vset_wi (l : Fin 3) (k : Fin 4) : (chM (.wi l) k).view.set = cSet (.wi l) k :=
  (Memref.set_view_squeeze _ squeezes_S1x128x256_S128x256).trans ((View.set_slice_whole cc0_scratch4
    (Rect.unit (s := S3x128x1024) ![l.val, 0, k.val * 256] S1x128x256.size (inbWi l k))).trans (rectWi_set l k))
theorem vset_wo (l : Fin 3) (k : Fin 4) : (chM (.wo l) k).view.set = cSet (.wo l) k :=
  (Memref.set_view_squeeze _ squeezes_S1x256x128_S256x128).trans ((View.set_slice_whole cc0_scratch5
    (Rect.unit (s := S3x1024x128) ![l.val, k.val * 256, 0] S1x256x128.size (inbWo l k))).trans (rectWo_set l k))
theorem vset_wih (l : Fin 3) (k : Fin 4) (h : Fin 2) : (hfM (.wi l) k h).view.set = hSet (.wi l) k h :=
  (Memref.set_view_squeeze _ squeezes_S1x128x128_S128x128).trans ((View.set_slice_whole cc0_scratch4
    (Rect.unit (s := S3x128x1024) ![l.val, 0, k.val * 256 + h.val * 128] S1x128x128.size (inbWih l k h))).trans (rectWih_set l k h))
theorem vset_woh (l : Fin 3) (k : Fin 4) (h : Fin 2) : (hfM (.wo l) k h).view.set = hSet (.wo l) k h :=
  (Memref.set_view_squeeze _ squeezes_S1x128x128_S128x128).trans ((View.set_slice_whole cc0_scratch5
    (Rect.unit (s := S3x1024x128) ![l.val, k.val * 256 + h.val * 128, 0] S1x128x128.size (inbWoh l k h))).trans (rectWoh_set l k h))

theorem chM_set (t : Tens) (k : Fin 4) (c : Dev nD) (q : PosShare TreeShare) :
    ((chM t k).view.loc (c : Thread nD τ) ↦[(chM t k).view.set]{q} chG m t k c : sProp 𝕄) = cPts m t k c q := by
  cases t with
  | x =>
    exact congrArg (fun S => (gloc .x c ↦[S]{q} gat m .x c : sProp 𝕄)) ((View.set_slice_whole cc0_scratch3 _).trans (rectX_set k))
  | wi l =>
    exact congrArg (fun S => (gloc (.wi l) c ↦[S]{q} gat m (.wi l) c : sProp 𝕄))
      (vset_wi l k)
  | wo l =>
    exact congrArg (fun S => (gloc (.wo l) c ↦[S]{q} gat m (.wo l) c : sProp 𝕄))
      (vset_wo l k)
theorem hfM_set (t : Tens) (k : Fin 4) (h : Fin 2) (c : Dev nD) (q : PosShare TreeShare) :
    ((hfM t k h).view.loc (c : Thread nD τ) ↦[(hfM t k h).view.set]{q} hfG m t k h c : sProp 𝕄) = hPts m t k h c q := by
  cases t with
  | x =>
    exact congrArg (fun S => (gloc .x c ↦[S]{q} gat m .x c : sProp 𝕄)) ((View.set_slice_whole cc0_scratch3 _).trans (rectXh_set k h))
  | wi l =>
    exact congrArg (fun S => (gloc (.wi l) c ↦[S]{q} gat m (.wi l) c : sProp 𝕄))
      (vset_wih l k h)
  | wo l =>
    exact congrArg (fun S => (gloc (.wo l) c ↦[S]{q} gat m (.wo l) c : sProp 𝕄))
      (vset_woh l k h)
theorem chM_any (t : Tens) (k : Fin 4) (c : Dev nD) :
    cAny (F := F) t k c = iprop(∃ f : Buf (Elt F) ((chM t k).view.loc (c : Thread nD τ)), (chM t k).view.loc (c : Thread nD τ) ↦[(chM t k).view.set]{fullShare} f) := by
  cases t with
  | x =>
    exact congrArg (fun S => (iprop(∃ f : Buf (Elt F) (gloc .x c), gloc .x c ↦[S]{fullShare} f) : sProp 𝕄)) ((View.set_slice_whole cc0_scratch3 _).trans (rectX_set k)).symm
  | wi l =>
    exact congrArg (fun S => (iprop(∃ f : Buf (Elt F) (gloc (.wi l) c), gloc (.wi l) c ↦[S]{fullShare} f) : sProp 𝕄))
      (vset_wi l k).symm
  | wo l =>
    exact congrArg (fun S => (iprop(∃ f : Buf (Elt F) (gloc (.wo l) c), gloc (.wo l) c ↦[S]{fullShare} f) : sProp 𝕄))
      (vset_wo l k).symm
theorem hfM_any (t : Tens) (k : Fin 4) (h : Fin 2) (c : Dev nD) :
    hAny (F := F) t k h c = iprop(∃ f : Buf (Elt F) ((hfM t k h).view.loc (c : Thread nD τ)), (hfM t k h).view.loc (c : Thread nD τ) ↦[(hfM t k h).view.set]{fullShare} f) := by
  cases t with
  | x =>
    exact congrArg (fun S => (iprop(∃ f : Buf (Elt F) (gloc .x c), gloc .x c ↦[S]{fullShare} f) : sProp 𝕄)) ((View.set_slice_whole cc0_scratch3 _).trans (rectXh_set k h)).symm
  | wi l =>
    exact congrArg (fun S => (iprop(∃ f : Buf (Elt F) (gloc (.wi l) c), gloc (.wi l) c ↦[S]{fullShare} f) : sProp 𝕄))
      (vset_wih l k h).symm
  | wo l =>
    exact congrArg (fun S => (iprop(∃ f : Buf (Elt F) (gloc (.wo l) c), gloc (.wo l) c ↦[S]{fullShare} f) : sProp 𝕄))
      (vset_woh l k h).symm

/-! ## The transfers -/

/-- The four transfers of an array: a device's own chunk to its right (`r1`) and left (`l1`) neighbour, then half of
    what arrived from the left on to the right (`r2`), half of what arrived from the right on to the left (`l2`). -/
inductive Hop
  | r1
  | l1
  | r2
  | l2
deriving DecidableEq

/-- Whether the transfer is of a half chunk; the neighbour it goes to. -/
def Hop.late : Hop → Bool
  | .r1 => false
  | .l1 => false
  | .r2 => true
  | .l2 => true
def Hop.right : Hop → Bool
  | .r1 => true
  | .l1 => false
  | .r2 => true
  | .l2 => false
def Hop.to (h : Hop) (c : Dev nD) : Dev nD := if h.right then nxt c else prv c
def Hop.from (h : Hop) (c : Dev nD) : Dev nD := if h.right then prv c else nxt c

theorem to_from (h : Hop) (c : Dev nD) : h.to (h.from c) = c := by
  cases h
  · exact nxt_prv c
  · exact prv_nxt c
  · exact nxt_prv c
  · exact prv_nxt c
theorem from_to (h : Hop) (c : Dev nD) : h.from (h.to c) = c := by
  cases h
  · exact prv_nxt c
  · exact nxt_prv c
  · exact prv_nxt c
  · exact nxt_prv c

/-- The shape moved, the source and the destination. -/
def xs : Hop → Tens → Shape
  | .r1, t => cs t
  | .l1, t => cs t
  | .r2, t => hs t
  | .l2, t => hs t
def sM : (h : Hop) → (t : Tens) → Memref sig .tc .vmem (xs h t) .bf16
  | .r1, t => chM t 0
  | .l1, t => chM t 0
  | .r2, t => hfM t 3 0
  | .l2, t => hfM t 1 1
def dM : (h : Hop) → (t : Tens) → Memref sig .tc .vmem (xs h t) .bf16
  | .r1, t => chM t 3
  | .l1, t => chM t 1
  | .r2, t => hfM t 2 0
  | .l2, t => hfM t 2 1

/-- The share of its source a transfer borrows. -/
def srcQ : Hop → PosShare TreeShare
  | .r1 => fullShare.right.left
  | .l1 => fullShare.right.right
  | .r2 => fullShare.right
  | .l2 => fullShare.right

/-- What a transfer borrows, what it lands, the room it needs. -/
def srcP : (h : Hop) → (t : Tens) → Dev nD → sProp 𝕄
  | .r1, t, c => cPts m t 0 c fullShare.right.left
  | .l1, t, c => cPts m t 0 c fullShare.right.right
  | .r2, t, c => hPts m t 3 0 c fullShare.right
  | .l2, t, c => hPts m t 1 1 c fullShare.right
def dstP : (h : Hop) → (t : Tens) → Dev nD → sProp 𝕄
  | .r1, t, c => cPts m t 3 c fullShare
  | .l1, t, c => cPts m t 1 c fullShare
  | .r2, t, c => hPts m t 2 0 c fullShare
  | .l2, t, c => hPts m t 2 1 c fullShare
def dstA : (h : Hop) → (t : Tens) → Dev nD → sProp 𝕄
  | .r1, t, c => cAny t 3 c
  | .l1, t, c => cAny t 1 c
  | .r2, t, c => hAny t 2 0 c
  | .l2, t, c => hAny t 2 1 c

instance srcP_storable (h : Hop) (t : Tens) (c : Dev nD) : BI.Storable (upEmb : UEmb _ 𝕄) (srcP m h t c) := by
  cases h <;> unfold srcP <;> infer_instance
instance dstP_storable (h : Hop) (t : Tens) (c : Dev nD) : BI.Storable (upEmb : UEmb _ 𝕄) (dstP m h t c) := by
  cases h <;> unfold dstP <;> infer_instance
instance dstA_storable (h : Hop) (t : Tens) (c : Dev nD) : BI.Storable (upEmb : UEmb _ 𝕄) (dstA (F := F) h t c) := by
  cases h <;> unfold dstA <;> infer_instance

/-- The gathered contents as contents of a transfer's source and destination. -/
def sG : (h : Hop) → (t : Tens) → (c : Dev nD) → Buf (Elt F) ((sM h t).view.loc (c : Thread nD τ))
  | .r1, t, c => chG m t 0 c
  | .l1, t, c => chG m t 0 c
  | .r2, t, c => hfG m t 3 0 c
  | .l2, t, c => hfG m t 1 1 c
def dG : (h : Hop) → (t : Tens) → (c : Dev nD) → Buf (Elt F) ((dM h t).view.loc (c : Thread nD τ))
  | .r1, t, c => chG m t 3 c
  | .l1, t, c => chG m t 1 c
  | .r2, t, c => hfG m t 2 0 c
  | .l2, t, c => hfG m t 2 1 c

theorem srcP_eq (h : Hop) (t : Tens) (c : Dev nD) :
    ((sM h t).view.loc (c : Thread nD τ) ↦[(sM h t).view.set]{srcQ h} sG m h t c : sProp 𝕄) = srcP m h t c := by
  cases h
  · exact chM_set m t 0 c _
  · exact chM_set m t 0 c _
  · exact hfM_set m t 3 0 c _
  · exact hfM_set m t 1 1 c _
theorem dstP_eq (h : Hop) (t : Tens) (c : Dev nD) :
    ((dM h t).view.loc (c : Thread nD τ) ↦[(dM h t).view.set]{fullShare} dG m h t c : sProp 𝕄) = dstP m h t c := by
  cases h
  · exact chM_set m t 3 c _
  · exact chM_set m t 1 c _
  · exact hfM_set m t 2 0 c _
  · exact hfM_set m t 2 1 c _
theorem dstA_eq (h : Hop) (t : Tens) (c : Dev nD) :
    dstA (F := F) h t c = iprop(∃ f : Buf (Elt F) ((dM h t).view.loc (c : Thread nD τ)), (dM h t).view.loc (c : Thread nD τ) ↦[(dM h t).view.set]{fullShare} f) := by
  cases h
  · exact chM_any t 3 c
  · exact chM_any t 1 c
  · exact hfM_any t 2 0 c
  · exact hfM_any t 2 1 c

/-- What the source holds on `c` is what the destination is to hold on the neighbour. -/
theorem read_src (h : Hop) (t : Tens) (c : Dev nD) :
    (sM h t).view.read (Elt F) (sG m h t c) = (dM h t).view.read (Elt F) (dG m h t (h.to c)) := by
  cases h
  · exact (read_ch m t 0 c).trans (Eq.trans (congrArg (blk m t) (show dv c 0 = dv (nxt c) 3 from ((dv_dv c 1 3).trans (dv_mod c 0)).symm)) (read_ch m t 3 (nxt c)).symm)
  · exact (read_ch m t 0 c).trans (Eq.trans (congrArg (blk m t) (show dv c 0 = dv (prv c) 1 from ((dv_dv c 3 1).trans (dv_mod c 0)).symm)) (read_ch m t 1 (prv c)).symm)
  · exact (read_hf m t 3 0 c).trans (Eq.trans (congrArg (fun d => hblk m t d 0) (show dv c 3 = dv (nxt c) 2 from (dv_dv c 1 2).symm)) (read_hf m t 2 0 (nxt c)).symm)
  · exact (read_hf m t 1 1 c).trans (Eq.trans (congrArg (fun d => hblk m t d 1) (show dv c 1 = dv (prv c) 2 from ((dv_dv c 3 2).trans (dv_mod c 1)).symm)) (read_hf m t 2 1 (prv c)).symm)

/-- So the landing makes the destination's gathered contents. -/
theorem landing (h : Hop) (t : Tens) (c : Dev nD) (fd : Buf (Elt F) ((dM h t).view.loc ((h.to c : Dev nD) : Thread nD τ))) :
    ((dM h t).view.loc ((h.to c : Dev nD) : Thread nD τ) ↦[(dM h t).view.set]{fullShare} ((dM h t).view.write (Elt F) fd ((sM h t).view.read (Elt F) (sG m h t c)) Finset.univ) : sProp 𝕄)
      = dstP m h t (h.to c) := by
  rw [← dstP_eq, read_src, View.write_read_eq_piecewise, View.setOn_univ]
  exact pointsTo_congr fun i hi => Finset.piecewise_eq_of_mem _ _ _ hi

/-! ## The copies into the staging scratches -/

theorem inbSi (l : Fin 3) : ∀ a, (![l.val, 0, 0] : Fin 3 → Nat) a + S1x128x256.size a ≤ S3x128x256.size a := by revert l; decide
theorem inbSo (l : Fin 3) : ∀ a, (![l.val, 0, 0] : Fin 3 → Nat) a + S1x256x128.size a ≤ S3x256x128.size a := by revert l; decide

/-- The staging memref of an array, and the argument it is copied from. -/
def stM : (t : Tens) → Memref sig .tc .vmem (cs t) .f32
  | .x => Memref.whole cc0_scratch0
  | .wi l => ((Memref.whole cc0_scratch1).slice (Rect.unit (s := S3x128x256) ![l.val, 0, 0] S1x128x256.size (inbSi l)) (fun _ => rfl)).squeeze
      S128x256 squeezes_S1x128x256_S128x256
  | .wo l => ((Memref.whole cc0_scratch2).slice (Rect.unit (s := S3x256x128) ![l.val, 0, 0] S1x256x128.size (inbSo l)) (fun _ => rfl)).squeeze
      S256x128 squeezes_S1x256x128_S256x128
def arM : (t : Tens) → Memref sig .tc .hbm (cs t) .f32
  | .x => Memref.whole main_arg0
  | .wi 0 => Memref.whole main_arg1
  | .wi 1 => Memref.whole main_arg3
  | .wi 2 => Memref.whole main_arg5
  | .wo 0 => Memref.whole main_arg2
  | .wo 1 => Memref.whole main_arg4
  | .wo 2 => Memref.whole main_arg6

/-- The staging buffers with every layer copied in; a staged array as its memref's contents; the argument's contents. -/
def stWi (c : Dev nD) : S3x128x256.Idx → Elt F .f32 := fun i => awi m (i 0) c (ix2 (i 1) (i 2))
def stWo (c : Dev nD) : S3x256x128.Idx → Elt F .f32 := fun i => awo m (i 0) c (ix2 (i 1) (i 2))
def stG : (t : Tens) → (c : Dev nD) → Buf (Elt F) ((stM t).view.loc (c : Thread nD τ))
  | .x, c => ax m c
  | .wi _, c => stWi m c
  | .wo _, c => stWo m c
def arG (t : Tens) (c : Dev nD) : Buf (Elt F) ((arM t).view.loc (c : Thread nD τ)) := m _

theorem awi_congr (c : Dev nD) {l l' : Fin 3} {i i' : Fin 128} {j j' : Fin 256} (h0 : l = l') (h1 : i = i') (h2 : j = j') :
    awi m l c (ix2 i j) = awi m l' c (ix2 i' j') := by subst h0; subst h1; subst h2; rfl
theorem awo_congr (c : Dev nD) {l l' : Fin 3} {i i' : Fin 256} {j j' : Fin 128} (h0 : l = l') (h1 : i = i') (h2 : j = j') :
    awo m l c (ix2 i j) = awo m l' c (ix2 i' j') := by subst h0; subst h1; subst h2; rfl

theorem read_st (t : Tens) (c : Dev nD) : (stM t).view.read (Elt F) (stG m t c) = (arM t).view.read (Elt F) (arG m t c) := by
  match t with
  | .x => rfl
  | .wi l =>
    have h1 : (arM (.wi l)).view.read (Elt F) (arG m (.wi l) c) = awi m l c := by
      match l with
      | 0 => rfl
      | 1 => rfl
      | 2 => rfl
    refine Eq.trans ?_ h1.symm
    funext (y : S128x256.Idx)
    have hy : y = ix2 (y 0) (y 1) := by funext a; fin_cases a <;> rfl
    refine (read_sq (Memref.whole cc0_scratch1) _ (inbSi l) squeezes_S1x128x256_S128x256 (stWi m c) y).trans ?_
    have e0 : ((Rect.unit (s := S3x128x256) ![l.val, 0, 0] S1x128x256.size (inbSi l)).emb (ix3 (0 : Fin 1) (y 0) (y 1))) 0 = l :=
      Fin.ext ((ValueKit.rect_emb_unit_val _ _ _ _ _).trans (Nat.add_zero _))
    have e1 : ((Rect.unit (s := S3x128x256) ![l.val, 0, 0] S1x128x256.size (inbSi l)).emb (ix3 (0 : Fin 1) (y 0) (y 1))) 1 = y 0 :=
      Fin.ext ((ValueKit.rect_emb_unit_val _ _ _ _ _).trans (Nat.zero_add _))
    have e2 : ((Rect.unit (s := S3x128x256) ![l.val, 0, 0] S1x128x256.size (inbSi l)).emb (ix3 (0 : Fin 1) (y 0) (y 1))) 2 = y 1 :=
      Fin.ext ((ValueKit.rect_emb_unit_val _ _ _ _ _).trans (Nat.zero_add _))
    exact (awi_congr m c e0 e1 e2).trans (congrArg (awi m l c) hy.symm)
  | .wo l =>
    have h1 : (arM (.wo l)).view.read (Elt F) (arG m (.wo l) c) = awo m l c := by
      match l with
      | 0 => rfl
      | 1 => rfl
      | 2 => rfl
    refine Eq.trans ?_ h1.symm
    funext (y : S256x128.Idx)
    have hy : y = ix2 (y 0) (y 1) := by funext a; fin_cases a <;> rfl
    refine (read_sq (Memref.whole cc0_scratch2) _ (inbSo l) squeezes_S1x256x128_S256x128 (stWo m c) y).trans ?_
    have e0 : ((Rect.unit (s := S3x256x128) ![l.val, 0, 0] S1x256x128.size (inbSo l)).emb (ix3 (0 : Fin 1) (y 0) (y 1))) 0 = l :=
      Fin.ext ((ValueKit.rect_emb_unit_val _ _ _ _ _).trans (Nat.add_zero _))
    have e1 : ((Rect.unit (s := S3x256x128) ![l.val, 0, 0] S1x256x128.size (inbSo l)).emb (ix3 (0 : Fin 1) (y 0) (y 1))) 1 = y 0 :=
      Fin.ext ((ValueKit.rect_emb_unit_val _ _ _ _ _).trans (Nat.zero_add _))
    have e2 : ((Rect.unit (s := S3x256x128) ![l.val, 0, 0] S1x256x128.size (inbSo l)).emb (ix3 (0 : Fin 1) (y 0) (y 1))) 2 = y 1 :=
      Fin.ext ((ValueKit.rect_emb_unit_val _ _ _ _ _).trans (Nat.zero_add _))
    exact (awo_congr m c e0 e1 e2).trans (congrArg (awo m l c) hy.symm)

/-- A staged array; the same holding anything; the argument, unchanged. -/
def stP (t : Tens) (c : Dev nD) : sProp 𝕄 := (stM t).view.loc (c : Thread nD τ) ↦[(stM t).view.set]{fullShare} stG m t c
def stA (t : Tens) (c : Dev nD) : sProp 𝕄 := iprop(∃ f, (stM t).view.loc (c : Thread nD τ) ↦[(stM t).view.set]{fullShare} f)
def arP (t : Tens) (c : Dev nD) : sProp 𝕄 := (arM t).view.loc (c : Thread nD τ) ↦[(arM t).view.set]{fullShare} arG m t c

instance stP_storable (t : Tens) (c : Dev nD) : BI.Storable (upEmb : UEmb _ 𝕄) (stP m t c) := by unfold stP; infer_instance
instance arP_storable (t : Tens) (c : Dev nD) : BI.Storable (upEmb : UEmb _ 𝕄) (arP m t c) := by unfold arP; infer_instance

theorem staging (t : Tens) (c : Dev nD) (fd : Buf (Elt F) ((stM t).view.loc (c : Thread nD τ))) :
    ((stM t).view.loc (c : Thread nD τ) ↦[(stM t).view.set]{fullShare} ((stM t).view.write (Elt F) fd ((arM t).view.read (Elt F) (arG m t c)) Finset.univ) : sProp 𝕄)
      = stP m t c := by
  unfold stP
  rw [← read_st, View.write_read_eq_piecewise, View.setOn_univ]
  exact pointsTo_congr fun i hi => Finset.piecewise_eq_of_mem _ _ _ hi

/-! ## The order of the transfers, and the cells -/

/-- The transfers in program order: for each array the first hop right and left, then for each array the second. -/
def hop (j : Fin 28) : Hop :=
  if j.val < 14 then (if j.val % 2 = 0 then .r1 else .l1) else (if j.val % 2 = 0 then .r2 else .l2)
def tn (j : Fin 28) : Tens := tens ⟨j.val % 14 / 2, by omega⟩
/-- The position of a transfer's semaphores in the kernel's two semaphore arrays. -/
def ixOf (j : Fin 28) : ℕ := if j.val < 14 then j.val else 14 + 7 * (j.val % 2) + (j.val - 14) / 2

theorem ixOf_lt (j : Fin 28) : ixOf j < 28 := by revert j; decide

def sendS (j : Fin 28) : DmaSem sig := (⟨8 + ixOf j, by have := ixOf_lt j; omega⟩ : Fin 64)
def recvS (j : Fin 28) : DmaSem sig := (⟨36 + ixOf j, by have := ixOf_lt j; omega⟩ : Fin 64)
def copyS (a : Fin 7) : DmaSem sig := (⟨1 + a.val, by omega⟩ : Fin 64)
/-- The runtime's barrier semaphore. -/
abbrev barS : Sem sig := (SemArray.scalar (sig.barrier 0 rfl) : Sems sig S_).sem

abbrev barCell (c : Dev nD) : GSem nD τ sig := ((c : Thread nD τ), .reg barS)
abbrev sendCell (c : Dev nD) (j : Fin 28) : GSem nD τ sig := ((c : Thread nD τ), .dma (sendS j))
abbrev recvCell (c : Dev nD) (j : Fin 28) : GSem nD τ sig := ((c : Thread nD τ), .dma (recvS j))
abbrev copyCell (c : Dev nD) (a : Fin 7) : GSem nD τ sig := ((c : Thread nD τ), .dma (copyS a))

/-- What a DMA semaphore is for. -/
inductive Use
  | stage
  | copy (a : Fin 7)
  | send (j : Fin 28)
  | recv (j : Fin 28)
deriving DecidableEq

/-- The transfer at a position of the semaphore arrays. -/
def jOf (i : ℕ) : Fin 28 := ⟨(if i < 14 then i else 14 + 2 * ((i - 14) % 7) + (i - 14) / 7) % 28, Nat.mod_lt _ (by decide)⟩
def use (n : ℕ) : Use :=
  if n = 0 then .stage else if n < 8 then .copy ⟨(n - 1) % 7, Nat.mod_lt _ (by decide)⟩ else if n < 36 then .send (jOf (n - 8)) else .recv (jOf (n - 36))

theorem use_copy (a : Fin 7) : use (copyS a).val = .copy a := by revert a; decide
theorem use_send (j : Fin 28) : use (sendS j).val = .send j := by revert j; decide
theorem use_recv (j : Fin 28) : use (recvS j).val = .recv j := by revert j; decide
theorem use_stage : use (cc0_sem0_0 : DmaSem sig).val = .stage := by decide

/-- The neighbour a transfer goes to, and the one it comes from. -/
abbrev peer (j : Fin 28) (c : Dev nD) : Dev nD := (hop j).to c
abbrev origin (j : Fin 28) (c : Dev nD) : Dev nD := (hop j).from c

/-- A transfer's room on device `c`. -/
def room (c : Dev nD) (j : Fin 28) : sProp 𝕄 := dstA (hop j) (tn j) c
instance room_storable (c : Dev nD) (j : Fin 28) : BI.Storable (upEmb : UEmb _ 𝕄) (room (F := F) c j) := by unfold room; infer_instance

/-- The transfers going right, those going left. -/
def goes (d : Bool) : Finset (Fin 28) := Finset.univ.filter fun j => (hop j).right = d

/-- What the barrier signal from the right (left) neighbour hands device `c`: room on that neighbour for every transfer
    `c` makes to it. -/
def barPay (c : Dev nD) (d : Bool) : sProp 𝕄 := bigSep (goes d) fun j => room (peer j c) j
instance barPay_storable (c : Dev nD) (d : Bool) : BI.Storable (upEmb : UEmb _ 𝕄) (barPay (F := F) c d) := by unfold barPay; infer_instance

/-- The bytes a transfer, a copy credits. -/
def Nx (j : Fin 28) : ℕ := (dM (hop j) (tn j)).view.dmaCredit
def Nc (a : Fin 7) : ℕ := (stM (tens a)).view.dmaCredit

def usePay (c : Dev nD) : Use → sProp 𝕄
  | .stage => iprop(emp)
  | .copy a => iprop(stP m (tens a) c ∗ arP m (tens a) c)
  | .send j => srcP m (hop j) (tn j) c
  | .recv j => dstP m (hop j) (tn j) c
def useAmt : Use → ℕ
  | .stage => 1
  | .copy a => Nc a
  | .send j => Nx j
  | .recv j => Nx j
def useDuties : Use → Finset Bool
  | .stage => ∅
  | .copy _ => {false}
  | .send _ => {false}
  | .recv _ => {false}

theorem cs_pos (t : Tens) : 0 < (cs t).numel := by rcases t with _ | l | l <;> decide +revert
theorem hs_pos (t : Tens) : 0 < (hs t).numel := by rcases t with _ | l | l <;> decide +revert
theorem xs_pos (h : Hop) (t : Tens) : 0 < (xs h t).numel := by
  cases h
  · exact cs_pos t
  · exact cs_pos t
  · exact hs_pos t
  · exact hs_pos t
theorem Nx_pos (j : Fin 28) : 0 < Nx j := View.dmaCredit_pos _ (xs_pos _ _)
theorem Nc_pos (a : Fin 7) : 0 < Nc a := View.dmaCredit_pos _ (cs_pos _)
theorem useAmt_pos (u : Use) : 0 < useAmt u := by
  cases u with
  | stage => exact Nat.one_pos
  | copy a => exact Nc_pos a
  | send j => exact Nx_pos j
  | recv j => exact Nx_pos j

/-- One round, round 0. A barrier cell has two duties of a unit each, paid by the right neighbour (`true`) and the left;
    a copy's, a send's or a receive's cell the one duty of its transfer's bytes. -/
def sched : Rounds.Schedule (GSem nD τ sig) Bool 𝕄 where
  duties g r := if r = 0 ∧ g.1.2 = .tc then (match g.2 with | .reg _ => Finset.univ | .dma n => useDuties (use n.val)) else ∅
  unitless _ := False
  amount g _ _ := match g.2 with | .reg _ => 1 | .dma n => useAmt (use n.val)
  payload g _ d := match g.2 with | .reg _ => barPay g.1.1 d | .dma n => usePay m g.1.1 (use n.val)
  amount_pos g _ _ _ := by
    rcases g with ⟨t, s | n⟩
    · exact Nat.one_pos
    · exact useAmt_pos _

instance usePay_storable (c : Dev nD) (u : Use) : BI.Storable (upEmb : UEmb _ 𝕄) (usePay m c u) := by
  cases u <;> unfold usePay <;> infer_instance
instance sched_payload_storable (g : GSem nD τ sig) (r : ℕ) (d : Bool) :
    BI.Storable (upEmb : UEmb _ 𝕄) ((sched m).payload g r d) := by
  rcases g with ⟨t, s | n⟩
  · show BI.Storable upEmb (barPay t.1 d); infer_instance
  · show BI.Storable upEmb (usePay m t.1 (use n.val)); infer_instance

section Facts
variable (c : Dev nD)

theorem duties_bar : (sched m).duties (barCell c) 0 = Finset.univ := by
  dsimp only [sched]; rw [if_pos ⟨rfl, rfl⟩]
theorem duties_dma (n : DmaSem sig) : (sched m).duties ((c : Thread nD τ), .dma n) 0 = useDuties (use n.val) := by
  dsimp only [sched]; rw [if_pos ⟨rfl, rfl⟩]
theorem duties_copy (a : Fin 7) : (sched m).duties (copyCell c a) 0 = {false} := by rw [duties_dma, use_copy]; rfl
theorem duties_send (j : Fin 28) : (sched m).duties (sendCell c j) 0 = {false} := by rw [duties_dma, use_send]; rfl
theorem duties_recv (j : Fin 28) : (sched m).duties (recvCell c j) 0 = {false} := by rw [duties_dma, use_recv]; rfl
theorem duties_later (g : GSem nD τ sig) : ∀ r, 1 ≤ r → (sched m).duties g r = ∅ := by
  intro r hr; dsimp only [sched]; rw [if_neg fun h => by omega]

theorem amount_bar (d : Bool) : (sched m).amount (barCell c) 0 d = 1 := rfl
theorem amount_copy (a : Fin 7) (d : Bool) : (sched m).amount (copyCell c a) 0 d = Nc a := by
  show useAmt (use (copyS a).val) = _; rw [use_copy]; rfl
theorem amount_send (j : Fin 28) (d : Bool) : (sched m).amount (sendCell c j) 0 d = Nx j := by
  show useAmt (use (sendS j).val) = _; rw [use_send]; rfl
theorem amount_recv (j : Fin 28) (d : Bool) : (sched m).amount (recvCell c j) 0 d = Nx j := by
  show useAmt (use (recvS j).val) = _; rw [use_recv]; rfl

theorem expect_bar : (sched m).expect (barCell c) 0 = 2 := by
  unfold Schedule.expect Schedule.amountOf
  rw [duties_bar, Finset.sum_congr rfl fun d _ => amount_bar m c d]; rfl
theorem expect_copy (a : Fin 7) : (sched m).expect (copyCell c a) 0 = Nc a := by
  unfold Schedule.expect Schedule.amountOf; rw [duties_copy, Finset.sum_singleton, amount_copy]
theorem expect_send (j : Fin 28) : (sched m).expect (sendCell c j) 0 = Nx j := by
  unfold Schedule.expect Schedule.amountOf; rw [duties_send, Finset.sum_singleton, amount_send]
theorem expect_recv (j : Fin 28) : (sched m).expect (recvCell c j) 0 = Nx j := by
  unfold Schedule.expect Schedule.amountOf; rw [duties_recv, Finset.sum_singleton, amount_recv]

theorem payload_bar (d : Bool) : (sched m).payload (barCell c) 0 d = barPay c d := rfl
theorem payload_copy (a : Fin 7) (d : Bool) : (sched m).payload (copyCell c a) 0 d = iprop(stP m (tens a) c ∗ arP m (tens a) c) := by
  show usePay m c (use (copyS a).val) = _; rw [use_copy]; rfl
theorem payload_send (j : Fin 28) (d : Bool) : (sched m).payload (sendCell c j) 0 d = srcP m (hop j) (tn j) c := by
  show usePay m c (use (sendS j).val) = _; rw [use_send]; rfl
theorem payload_recv (j : Fin 28) (d : Bool) : (sched m).payload (recvCell c j) 0 d = dstP m (hop j) (tn j) c := by
  show usePay m c (use (recvS j).val) = _; rw [use_recv]; rfl

theorem rest_bar : bigSep ((sched m).duties (barCell c) 0 \ ∅) (fun d => (sched m).payload (barCell c) 0 d) = iprop(barPay c true ∗ barPay c false) := by
  rw [Finset.sdiff_empty, duties_bar, bigSep_univ_eq_bigSepL [true, false] (by decide) (by decide), bigSepL_cons_cons, bigSepL_singleton, payload_bar, payload_bar]; rfl
theorem rest_copy (a : Fin 7) : bigSep ((sched m).duties (copyCell c a) 0 \ ∅) (fun d => (sched m).payload (copyCell c a) 0 d)
    = iprop(stP m (tens a) c ∗ arP m (tens a) c) := by
  rw [Finset.sdiff_empty, duties_copy, bigSep_singleton, payload_copy]
theorem rest_send (j : Fin 28) : bigSep ((sched m).duties (sendCell c j) 0 \ ∅) (fun d => (sched m).payload (sendCell c j) 0 d) = srcP m (hop j) (tn j) c := by
  rw [Finset.sdiff_empty, duties_send, bigSep_singleton, payload_send]
theorem rest_recv (j : Fin 28) : bigSep ((sched m).duties (recvCell c j) 0 \ ∅) (fun d => (sched m).payload (recvCell c j) 0 d) = dstP m (hop j) (tn j) c := by
  rw [Finset.sdiff_empty, duties_recv, bigSep_singleton, payload_recv]

end Facts

/-! ## What each device owes; the levels -/

/-- The transfers from position `s` on. -/
def fromJ (s : ℕ) : Finset (Fin 28) := Finset.univ.filter fun j => s ≤ j.val

/-- Device `c` owes its neighbours' receive cells the bytes of the transfers it has yet to make. -/
def owing (c : Dev nD) (s : ℕ) : CellTallies nD τ sig Unit := ∑ j ∈ fromJ s, tallyAt (recvCell (peer j c) j) () (Nx j)
def O₁ (c : Dev nD) : CellTallies nD τ sig Unit := owing c 0 + tallyAt (barCell (nxt c)) () 1
def O₀ (c : Dev nD) : CellTallies nD τ sig Unit := O₁ c + tallyAt (barCell (prv c)) () 1

theorem owing_step (c : Dev nD) (j : Fin 28) : owing c j.val = owing c (j.val + 1) + tallyAt (recvCell (peer j c) j) () (Nx j) := by
  unfold owing
  have h : fromJ j.val = insert j (fromJ (j.val + 1)) := by
    ext i; simp only [fromJ, Finset.mem_filter, Finset.mem_univ, true_and, Finset.mem_insert]
    rw [Fin.ext_iff]; omega
  rw [h, Finset.sum_insert (by simp [fromJ]), add_comm]
theorem owing_end (c : Dev nD) : owing c 28 = 0 := by
  unfold owing
  rw [show fromJ 28 = ∅ from by ext i; simp [fromJ], Finset.sum_empty]

theorem owing_pos {c : Dev nD} {s : ℕ} {g : GSem nD τ sig} {u : Unit} (h : 0 < owing c s g u) : ∃ j : Fin 28, s ≤ j.val ∧ g = recvCell (peer j c) j := by
  by_contra hn
  have h0 : owing c s g u = 0 := by
    unfold owing
    rw [Finset.sum_apply, Finsupp.finset_sum_apply]
    refine Finset.sum_eq_zero fun j hj => ?_
    rw [tallyAt_apply, if_neg]
    rintro ⟨h1, _⟩
    exact hn ⟨j, (Finset.mem_filter.mp hj).2, h1⟩
  omega

/-- Barrier cells at 1, receive cells at 2 (first hop) and 3 (second hop), every other cell at 0. -/
def useLv : Use → ℕ
  | .stage => 0
  | .copy _ => 0
  | .send _ => 0
  | .recv j => if j.val < 14 then 2 else 3
def lv (g : GSem nD τ sig) (_ : Unit) : ℕ := match g.2 with | .reg _ => 1 | .dma n => useLv (use n.val)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 28) (u : Unit) : lv (recvCell c j) u = if j.val < 14 then 2 else 3 := by
  show useLv (use (recvS j).val) = _; rw [use_recv]; rfl

/-- A device may wait on a cell below everything it owes. -/
theorem mayWait_owing (c : Dev nD) (sm : SemLoc sig) (s b : ℕ) (hb : lv ((c : Thread nD τ), sm) () ≤ b)
    (hs : ∀ j : Fin 28, s ≤ j.val → b < if j.val < 14 then 2 else 3) :
    (levAts L lv : sProp 𝕄) ⊢ MayWait (c : Thread nD τ) sm () (owing c s) :=
  MayOwe.of_cut (L := L) (lev := lv) b (fun p hp => by rw [Finset.mem_singleton.mp hp, L_tc]; exact Finset.mem_singleton_self _)
    (fun g u hg => by obtain ⟨j, -, rfl⟩ := owing_pos hg; exact Finset.mem_singleton_self _)
    (fun p hp => by rw [Finset.mem_singleton.mp hp]; exact hb)
    (fun g u hg => by obtain ⟨j, hj, rfl⟩ := owing_pos hg; rw [lv_recv]; exact hs j hj)

theorem O₀_pos {c : Dev nD} {g : GSem nD τ sig} {u : Unit} (h : 0 < O₀ c g u) :
    (∃ j, g = recvCell (peer j c) j) ∨ ∃ c', g = barCell c' := by
  unfold O₀ O₁ at h
  rw [Pi.add_apply, Finsupp.add_apply, Pi.add_apply, Finsupp.add_apply, tallyAt_apply, tallyAt_apply] at h
  by_cases h1 : 0 < owing c 0 g u
  · obtain ⟨j, -, hj⟩ := owing_pos h1; exact Or.inl ⟨j, hj⟩
  · refine Or.inr ?_
    by_cases h2 : g = barCell (nxt c) ∧ u = ()
    · exact ⟨_, h2.1⟩
    · by_cases h3 : g = barCell (prv c) ∧ u = ()
      · exact ⟨_, h3.1⟩
      · rw [if_neg h2, if_neg h3] at h; omega

/-- The staging semaphore lies below everything owed at launch. -/
theorem mayWait_stage (c : Dev nD) (q : DmaSem sig) (hq : use q.val = .stage) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨c', rfl⟩ <;> exact Finset.mem_singleton_self _)
      (fun p hp => by rw [Finset.mem_singleton.mp hp]; show useLv (use q.val) ≤ 0; rw [hq]; exact Nat.le_refl _)
      (fun g u hg => by
        rcases O₀_pos hg with ⟨j, rfl⟩ | ⟨c', rfl⟩
        · rw [lv_recv]; split <;> decide
        · exact Nat.one_pos)
  · rw [MayWait_zero]; iintro -; iempintro

end Cert.Gather

end
-- ==== Proof.State.lean ====
/-
What a device holds at a point of its body, as a function of how far it has come, and one rule per kind of effect.
-/
module

public import proofs.«01_k».proof.Proof.Schedule

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Runs of resources -/

theorem one_of {I : Type} [Fintype I] [DecidableEq I] {Φ : I → sProp 𝕄} (i : I) : (bigSep Finset.univ Φ : sProp 𝕄) ⊢ Φ i :=
  BI.bigSep_elim (Finset.mem_univ i)

/-- The resources numbered from `lo` up to `hi`. -/
def seg {n : ℕ} (lo hi : ℕ) (Φ : Fin n → sProp 𝕄) : sProp 𝕄 := bigSep (Finset.univ.filter fun j : Fin n => lo ≤ j.val ∧ j.val < hi) Φ

theorem seg_head {n : ℕ} (j : Fin n) (hi : ℕ) (h : j.val < hi) (Φ : Fin n → sProp 𝕄) : seg j.val hi Φ = iprop(Φ j ∗ seg (j.val + 1) hi Φ) := by
  unfold seg
  have hs : (Finset.univ.filter fun i : Fin n => j.val ≤ i.val ∧ i.val < hi) = insert j (Finset.univ.filter fun i : Fin n => j.val + 1 ≤ i.val ∧ i.val < hi) := by
    ext i; simp only [Finset.mem_filter, Finset.mem_univ, true_and, Finset.mem_insert]; rw [Fin.ext_iff]; omega
  rw [hs]
  exact BI.bigSep_insert (by simp)
theorem seg_snoc {n : ℕ} (j : Fin n) (lo : ℕ) (h : lo ≤ j.val) (Φ : Fin n → sProp 𝕄) : seg lo (j.val + 1) Φ = iprop(Φ j ∗ seg lo j.val Φ) := by
  unfold seg
  have hs : (Finset.univ.filter fun i : Fin n => lo ≤ i.val ∧ i.val < j.val + 1) = insert j (Finset.univ.filter fun i : Fin n => lo ≤ i.val ∧ i.val < j.val) := by
    ext i; simp only [Finset.mem_filter, Finset.mem_univ, true_and, Finset.mem_insert]; rw [Fin.ext_iff]; omega
  rw [hs]
  exact BI.bigSep_insert (by simp)
theorem seg_nil {n : ℕ} (lo hi : ℕ) (h : hi ≤ lo) (Φ : Fin n → sProp 𝕄) : seg lo hi Φ = iprop(emp) := by
  unfold seg
  rw [show (Finset.univ.filter fun i : Fin n => lo ≤ i.val ∧ i.val < hi) = ∅ from by
    ext i; simp only [Finset.mem_filter, Finset.mem_univ, true_and]; constructor
    · intro; omega
    · intro h; exact absurd h (Finset.notMem_empty _)]
  exact bigSep_empty
theorem seg_all {n : ℕ} (Φ : Fin n → sProp 𝕄) : seg 0 n Φ = bigSep Finset.univ Φ := by
  unfold seg
  rw [show (Finset.univ.filter fun i : Fin n => 0 ≤ i.val ∧ i.val < n) = Finset.univ from by
    ext i; simp only [Finset.mem_filter, Finset.mem_univ, true_and, iff_true]; exact ⟨Nat.zero_le _, i.isLt⟩]

/-! ## Shares and halves of a chunk -/

theorem cPts_share (t : Tens) (k : Fin 4) (c : Dev nD) (q : PosShare TreeShare) :
    cPts m t k c q = iprop(cPts m t k c q.left ∗ cPts m t k c q.right) := by
  have h := pointsTo_share (Ix := Unit) (Name := ℕ) (U := UU) (Lvl := ℕ) (ℓ := gloc t c) (I := cSet t k) (f := gat m t c) (PosShare.mem_left_op_right q)
  exact BI.Entails.antisymm h.1 h.2
theorem hPts_share (t : Tens) (k : Fin 4) (h : Fin 2) (c : Dev nD) (q : PosShare TreeShare) :
    hPts m t k h c q = iprop(hPts m t k h c q.left ∗ hPts m t k h c q.right) := by
  have h := pointsTo_share (Ix := Unit) (Name := ℕ) (U := UU) (Lvl := ℕ) (ℓ := gloc t c) (I := hSet t k h) (f := gat m t c) (PosShare.mem_left_op_right q)
  exact BI.Entails.antisymm h.1 h.2

/-- A set of a buffer's elements coloured with `n` colours is the elements of each colour. -/
theorem pts_colour {ℓ : Loc nD τ sig} (n : ℕ) (S : Finset (Idx ℓ)) (col : Idx ℓ → ℕ) (hcol : ∀ i ∈ S, col i < n) (T : Fin n → Finset (Idx ℓ))
    (hT : ∀ k i, i ∈ T k ↔ i ∈ S ∧ col i = k.val) (q : PosShare TreeShare) (f : Buf (Elt F) ℓ) :
    (ℓ ↦[S]{q} f : sProp 𝕄) = bigSep Finset.univ fun k : Fin n => ℓ ↦[T k]{q} f := by
  rw [← pointsTo_biUnion]
  · congr 1
    ext i
    simp only [Finset.mem_biUnion, Finset.mem_univ, true_and]
    exact ⟨fun h => ⟨⟨col i, hcol i h⟩, (hT _ _).mpr ⟨h, rfl⟩⟩, fun ⟨_, h⟩ => ((hT _ _).mp h).1⟩
  · intro a _ b _ hab
    refine Finset.disjoint_left.mpr fun i ha hb => hab (Fin.ext ?_)
    rw [← ((hT _ _).mp ha).2, ← ((hT _ _).mp hb).2]

theorem bigSep_fin2 (Φ : Fin 2 → sProp 𝕄) : bigSep Finset.univ Φ = iprop(Φ 0 ∗ Φ 1) := by
  rw [bigSep_univ_eq_bigSepL [0, 1] (by decide) (by decide), bigSepL_cons_cons, bigSepL_singleton]; rfl
theorem bigSep_fin3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

/-- A chunk is its two halves; an array its four chunks. -/
theorem pts_halves (t : Tens) (k : Fin 4) (c : Dev nD) (q : PosShare TreeShare) (f : Buf (Elt F) (gloc t c)) :
    (gloc t c ↦[cSet t k]{q} f : sProp 𝕄) = iprop((gloc t c ↦[hSet t k 0]{q} f) ∗ gloc t c ↦[hSet t k 1]{q} f) := by
  have h := pts_colour (ℓ := gloc t c) 2 (cSet t k) (hlf t) (fun i _ => hlf_lt t i) (fun h => hSet t k h) (fun h i => (mem_hSet t k h i).trans (and_assoc.symm.trans (and_congr_left' (mem_cSet t k i).symm))) q f
  exact h.trans (bigSep_fin2 fun h : Fin 2 => (gloc t c ↦[hSet t k h]{q} f : sProp 𝕄))
theorem pts_chunks (t : Tens) (c : Dev nD) (q : PosShare TreeShare) (f : Buf (Elt F) (gloc t c)) :
    (gloc t c ↦[tSet t]{q} f : sProp 𝕄)
      = iprop((gloc t c ↦[cSet t 0]{q} f) ∗ (gloc t c ↦[cSet t 1]{q} f) ∗ (gloc t c ↦[cSet t 2]{q} f) ∗ gloc t c ↦[cSet t 3]{q} f) := by
  have h := pts_colour (ℓ := gloc t c) 4 (tSet t) (pos t) (fun i _ => pos_lt t i) (fun k => cSet t k) (fun k i => (mem_cSet t k i).trans (and_congr_left' (mem_tSet t i).symm)) q f
  exact h.trans (bigSep_fin4 fun k : Fin 4 => (gloc t c ↦[cSet t k]{q} f : sProp 𝕄))

theorem cPts_halves (t : Tens) (k : Fin 4) (c : Dev nD) (q : PosShare TreeShare) : cPts m t k c q = iprop(hPts m t k 0 c q ∗ hPts m t k 1 c q) :=
  pts_halves t k c q _

/-! ## What is kept of what has landed -/

/-- Of a landed chunk: the left share, and the right share of the half not sent on; a landed half chunk whole. -/
def keptP : (h : Hop) → (t : Tens) → Dev nD → sProp 𝕄
  | .r1, t, c => iprop(cPts m t 3 c fullShare.left ∗ hPts m t 3 1 c fullShare.right)
  | .l1, t, c => iprop(cPts m t 1 c fullShare.left ∗ hPts m t 1 0 c fullShare.right)
  | .r2, t, c => hPts m t 2 0 c fullShare
  | .l2, t, c => hPts m t 2 1 c fullShare

theorem sep3_eq {P P' A B : sProp 𝕄} (h : P' = iprop(A ∗ B)) : iprop(P ∗ P') = iprop((P ∗ B) ∗ A) := by
  rw [h]
  have h1 : iprop(P ∗ A ∗ B) ⊢ iprop((P ∗ B) ∗ A) := by
    iintro ⟨HP, HA, HB⟩
    isplitr [HA]
    · isplitl [HP] <;> iassumption
    iexact HA
  have h2 : iprop((P ∗ B) ∗ A) ⊢ iprop(P ∗ A ∗ B) := by
    iintro ⟨⟨HP, HB⟩, HA⟩
    isplitl [HP]; · iexact HP
    isplitl [HA] <;> iassumption
  exact BI.Entails.antisymm h1 h2
theorem sep3_eq' {P P' A B : sProp 𝕄} (h : P' = iprop(A ∗ B)) : iprop(P ∗ P') = iprop((P ∗ A) ∗ B) := by
  rw [h]
  have h1 : iprop(P ∗ A ∗ B) ⊢ iprop((P ∗ A) ∗ B) := by
    iintro ⟨HP, HA, HB⟩
    isplitr [HB]
    · isplitl [HP] <;> iassumption
    iexact HB
  have h2 : iprop((P ∗ A) ∗ B) ⊢ iprop(P ∗ A ∗ B) := by
    iintro ⟨⟨HP, HA⟩, HB⟩
    isplitl [HP]; · iexact HP
    isplitl [HA] <;> iassumption
  exact BI.Entails.antisymm h1 h2

/-- A landed chunk is what is kept of it and what the next transfer borrows. -/
theorem land_r1 (t : Tens) (c : Dev nD) : dstP m .r1 t c = iprop(keptP m .r1 t c ∗ srcP m .r2 t c) :=
  (cPts_share m t 3 c fullShare).trans (sep3_eq (cPts_halves m t 3 c fullShare.right))
theorem land_l1 (t : Tens) (c : Dev nD) : dstP m .l1 t c = iprop(keptP m .l1 t c ∗ srcP m .l2 t c) :=
  (cPts_share m t 1 c fullShare).trans (sep3_eq' (cPts_halves m t 1 c fullShare.right))

/-- The transfer of the second hop that sends on part of what transfer `j` lands. -/
def onward (j : Fin 28) : Fin 28 := ⟨(j.val + 14) % 28, Nat.mod_lt _ (by decide)⟩

theorem land_first (j : Fin 28) (hj : j.val < 14) (c : Dev nD) :
    dstP m (hop j) (tn j) c = iprop(keptP m (hop j) (tn j) c ∗ srcP m (hop (onward j)) (tn (onward j)) c) := by
  have ht : tn (onward j) = tn j := congrArg tens (Fin.ext (show (j.val + 14) % 28 % 14 / 2 = j.val % 14 / 2 by omega))
  have hv : (onward j).val = j.val + 14 := Nat.mod_eq_of_lt (by omega)
  rw [ht]
  by_cases he : j.val % 2 = 0
  · have h1 : hop j = .r1 := by unfold hop; rw [if_pos hj, if_pos he]
    have h2 : hop (onward j) = .r2 := by unfold hop; rw [hv, if_neg (by omega), if_pos (by omega)]
    rw [h1, h2]; exact land_r1 m _ c
  · have h1 : hop j = .l1 := by unfold hop; rw [if_pos hj, if_neg he]
    have h2 : hop (onward j) = .l2 := by unfold hop; rw [hv, if_neg (by omega), if_neg (by omega)]
    rw [h1, h2]; exact land_l1 m _ c
theorem land_second (j : Fin 28) (hj : 14 ≤ j.val) (c : Dev nD) : dstP m (hop j) (tn j) c = keptP m (hop j) (tn j) c := by
  by_cases he : j.val % 2 = 0
  · rw [show hop j = .r2 from by unfold hop; rw [if_neg (by omega), if_pos he]]; rfl
  · rw [show hop j = .l2 from by unfold hop; rw [if_neg (by omega), if_neg he]]; rfl

/-- A device's own chunk, stored, is the left share it keeps and the shares its two transfers borrow. -/
theorem own_split (t : Tens) (c : Dev nD) : cPts m t 0 c fullShare = iprop(cPts m t 0 c fullShare.left ∗ srcP m .r1 t c ∗ srcP m .l1 t c) :=
  (cPts_share m t 0 c fullShare).trans (congrArg (fun P => iprop(cPts m t 0 c fullShare.left ∗ P)) (cPts_share m t 0 c fullShare.right))

/-! ## The cells and the persistent records -/

/-- Cell `k` of device `c`: the barrier's, then every DMA semaphore's but the staging one's. -/
def kcell (p : Dev nD × Fin 64) : GSem nD τ sig := if p.2.val = 0 then barCell p.1 else ((p.1 : Thread nD τ), .dma (show DmaSem sig from p.2))

def kB : Fin 64 := 0
theorem kcell_bar (c : Dev nD) : kcell (c, kB) = barCell c := rfl
theorem kcell_dma (c : Dev nD) (q : Fin 64) (h : q.val ≠ 0) : kcell (c, q) = ((c : Thread nD τ), .dma (show DmaSem sig from q)) := if_neg h
theorem kcell_send (c : Dev nD) (j : Fin 28) : kcell (c, (sendS j : Fin 64)) = sendCell c j := kcell_dma c _ (Nat.ne_of_gt (Nat.lt_of_lt_of_le (by decide) (Nat.le_add_right 8 _)))
theorem kcell_recv (c : Dev nD) (j : Fin 28) : kcell (c, (recvS j : Fin 64)) = recvCell c j := kcell_dma c _ (Nat.ne_of_gt (Nat.lt_of_lt_of_le (by decide) (Nat.le_add_right 36 _)))
theorem kcell_copy (c : Dev nD) (a : Fin 7) : kcell (c, (copyS a : Fin 64)) = copyCell c a := kcell_dma c _ (Nat.ne_of_gt (Nat.lt_of_lt_of_le (by decide) (Nat.le_add_right 1 _)))

variable (K : Dev nD × Fin 64 → ℕ)

/-- The invariant of every cell, that each is at round 0, and the levels. -/
def Rec : sProp 𝕄 :=
  iprop(levAts L lv ∗ (bigSep Finset.univ fun p => cellInv ER (sched m) (K p) (kcell p)) ∗ bigSep Finset.univ fun p => reached ER (kcell p) 0)

instance Rec_persistent : BI.Persistent (Rec m K) := by unfold Rec; infer_instance

theorem rec_lev : Rec m K ⊢ (levAts L lv : sProp 𝕄) := by unfold Rec; iintro ⟨#H, -⟩; iexact H
theorem rec_inv (p : Dev nD × Fin 64) (g : GSem nD τ sig) (h : kcell p = g) : Rec m K ⊢ cellInv ER (sched m) (K p) g := by
  subst h; unfold Rec; iintro ⟨-, #H, -⟩; iapply (one_of p) $$ H
theorem rec_reached (p : Dev nD × Fin 64) (g : GSem nD τ sig) (h : kcell p = g) : Rec m K ⊢ (reached ER g 0 : sProp 𝕄) := by
  subst h; unfold Rec; iintro ⟨-, -, #H⟩; iapply (one_of p) $$ H

/-! ## The state -/

section World

variable (c : Dev nD)

/-- The barrier's part: before the first signal, between the two, before the wait, after it. -/
def Bar (b s : ℕ) : sProp 𝕄 :=
  match b with
  | 0 => iprop((∃ W, owes (c : Thread nD τ) (O₀ c) W) ∗ (dutyTok ER (barCell (prv c)) 0 true ∗ barPay (prv c) true)
      ∗ (dutyTok ER (barCell (nxt c)) 0 false ∗ barPay (nxt c) false) ∗ cred (tallyAt (barCell c) () 2) ∗ atPos ER (barCell c) 0 ∅ 0)
  | 1 => iprop((∃ W, owes (c : Thread nD τ) (O₁ c) W)
      ∗ (dutyTok ER (barCell (nxt c)) 0 false ∗ barPay (nxt c) false) ∗ cred (tallyAt (barCell c) () 2) ∗ atPos ER (barCell c) 0 ∅ 0)
  | 2 => iprop((∃ W, owes (c : Thread nD τ) (owing c 0) W) ∗ cred (tallyAt (barCell c) () 2) ∗ atPos ER (barCell c) 0 ∅ 0)
  | _ => iprop((∃ W, owes (c : Thread nD τ) (owing c s) W) ∗ semVal (barCell c) 0 ∗ seg s 28 fun j : Fin 28 => room (peer j c) j)

theorem bar3 (s : ℕ) : Bar (F := F) c 3 s
    = iprop((∃ W, owes (c : Thread nD τ) (owing c s) W) ∗ semVal (barCell c) 0 ∗ seg s 28 fun j : Fin 28 => room (peer j c) j) := rfl

/-- The sending side with `s` transfers made and `w` send waits done. -/
def Snd (s w : ℕ) : sProp 𝕄 :=
  iprop((seg s 28 fun j : Fin 28 => iprop(dutyTok ER (sendCell c j) 0 false ∗ dutyTok ER (recvCell (peer j c) j) 0 false))
    ∗ (seg w s fun j : Fin 28 => cred (tallyAt (sendCell c j) () (Nx j)))
    ∗ (seg w 28 fun j : Fin 28 => atPos ER (sendCell c j) 0 ∅ 0)
    ∗ seg 0 w fun j : Fin 28 => iprop(semVal (sendCell c j) 0 ∗ srcP m (hop j) (tn j) c))

/-- The shares the transfers from `s` to `v` may borrow. -/
def Lend (s v : ℕ) : sProp 𝕄 := seg s v fun j : Fin 28 => srcP m (hop j) (tn j) c

/-- The receiving side with `r` receive waits done. -/
def Rcv (r : ℕ) : sProp 𝕄 :=
  iprop((seg r 28 fun j : Fin 28 => iprop(cred (tallyAt (recvCell c j) () (Nx j)) ∗ atPos ER (recvCell c j) 0 ∅ 0))
    ∗ seg 0 r fun j : Fin 28 => iprop(semVal (recvCell c j) 0 ∗ keptP m (hop j) (tn j) c))

/-- The copies: `n` started, `d` waited for, `b` of the arrays stored in their own chunk. -/
def Cps (n d b : ℕ) : sProp 𝕄 :=
  iprop((seg n 7 fun a : Fin 7 => iprop(dutyTok ER (copyCell c a) 0 false ∗ stA (tens a) c ∗ arP m (tens a) c))
    ∗ (seg d n fun a : Fin 7 => cred (tallyAt (copyCell c a) () (Nc a)))
    ∗ (seg d 7 fun a : Fin 7 => atPos ER (copyCell c a) 0 ∅ 0)
    ∗ (seg 0 d fun a : Fin 7 => iprop(semVal (copyCell c a) 0 ∗ stP m (tens a) c ∗ arP m (tens a) c))
    ∗ (seg b 7 fun a : Fin 7 => cAny (tens a) 0 c)
    ∗ seg 0 b fun a : Fin 7 => cPts m (tens a) 0 c fullShare.left)

/-- The output's staging buffer. -/
def outPts (f : Buf (Elt F) ((c : Thread nD τ).loc cc0_stg0_0)) : sProp 𝕄 := (c : Thread nD τ).loc cc0_stg0_0 ↦{fullShare} f

/-- All a device holds. -/
def World (p s w v r n d b : ℕ) (f : Buf (Elt F) ((c : Thread nD τ).loc cc0_stg0_0)) : sProp 𝕄 :=
  iprop(Rec m K ∗ Bar c p s ∗ Snd m c s w ∗ Lend m c s v ∗ Rcv m c r ∗ Cps m c n d b ∗ outPts c f)

variable {p s w v r n d b : ℕ} {f : Buf (Elt F) ((c : Thread nD τ).loc cc0_stg0_0)}

/-- What the program `e`, run on device `c`, needs to end in `Q`. -/
abbrev Wp (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- Waiting for a cell that carries one duty, and closing it. -/
theorem wait_close {α : Type} {Q : α → sProp 𝕄} {q : DmaSem sig} (κ : ℕ) {N : ℕ} {s : Shape} {e : EltTy} {sp sp' : Space} {src : Memref sig .tc sp s e} {dst : Memref sig .tc sp' s e}
    {hs : src.view.WordExact} {hd : dst.view.WordExact} (hN : dst.view.dmaCredit = N)
    (he : (sched m).expect ((c : Thread nD τ), .dma q) 0 = N) (O : CellTallies nD τ sig Unit) (W : Waits sig Unit)
    {k : PUnit → Prog (TpuEff nD τ sig (Elt F) Λ₀ .tc) α} :
    iprop(cellInv ER (sched m) κ ((c : Thread nD τ), .dma q) ∗ cred (tallyAt ((c : Thread nD τ), .dma q) () N) ∗ owes (c : Thread nD τ) O W
        ∗ MayWait (c : Thread nD τ) (.dma q) () O ∗ atPos ER ((c : Thread nD τ), .dma q) 0 ∅ 0)
      ⊢ iprop((((∃ W, owes (c : Thread nD τ) O W) ∗ semVal ((c : Thread nD τ), .dma q) 0
            ∗ bigSep ((sched m).duties ((c : Thread nD τ), .dma q) 0 \ ∅) (fun d => (sched m).payload ((c : Thread nD τ), .dma q) 0 d)) -∗ Wp c (k ⟨⟩) Q)
          -∗ Wp c (.op (.waitDma2 q src dst hs hd) k) Q) := by
  subst hN
  iintro ⟨#HI, Hc, HO, Hm, Hat⟩ Hk
  iapply (Rounds.wp_wait_rest_token 𝒱₀ ER (sched m) (c : Thread nD τ) none (κ := κ)
      (wpE_waitDma2_eq 𝒱₀ (c : Thread nD τ) none Set.univ) (Set.mem_univ _) () (O := O) (W := W) (R := 0) (m := 0) (T := ∅)
      ((Nat.zero_add _).trans he.symm)) $$ [Hc HO Hm Hat]
  · isplitr; · iexact HI
    isplitl [Hc]; · iexact Hc
    isplitl [HO]; · iexact HO
    isplitl [Hm] <;> iassumption
  iintro ⟨HO, Hat, -, Hpay⟩
  imod (Rounds.cell_close ER (sched m) (Set.mem_univ κ) (fun h => h) (R := 0 + 1) (duties_later m _)) $$ [Hat] with Hz
  · isplitr; · iexact HI
    iexact Hat
  iapply Hk
  isplitl [HO]; · iexists _; iexact HO
  isplitl [Hz] <;> iassumption

/-- The `j`-th transfer. -/
theorem step_send {α : Type} {Q : α → sProp 𝕄} (j : Fin 28) (h : Hop) (t : Tens) (hj : hop j = h) (ht : tn j = t) (n' : Dev nD) (hn : n' = h.to c) {sS rS : DmaSem sig}
    (hS : sS = sendS j) (hR : rS = recvS j) (hv : j.val < v) (hw : w ≤ j.val)
    {hsc : (dM h t : Memref sig (Dev.tc n' : Thread nD τ).2.kind .vmem (xs h t) .bf16).view.ref.isScScratch = false}
    {hsrc : (sM h t).view.WordExact} {hdst : (dM h t).view.WordExact}
    {hsem : DmaTarget.Typed .vmem (.dma rS) (.remote (Dev.tc n' : Thread nD τ) (dM h t : Memref sig (Dev.tc n' : Thread nD τ).2.kind .vmem (xs h t) .bf16) (.dma sS) hsc)}
    {k : PUnit → Prog (TpuEff nD τ sig (Elt F) Λ₀ .tc) α}
    (hk : World m K c 3 (j.val + 1) w v r n d b f ⊢ Wp c (k ⟨⟩) Q) :
    World m K c 3 j.val w v r n d b f
      ⊢ Wp c (.op (.enqueueDma (sM h t) (.remote (Dev.tc n' : Thread nD τ) (dM h t) (.dma sS) hsc) (.dma rS) hsrc hdst hsem) k) Q := by
  subst hn; subst hS; subst hR
  have hpn : peer j c = h.to c := by rw [← hj]
  have hs : srcP m (hop j) (tn j) c = ((sM h t).view.loc (c : Thread nD τ) ↦[(sM h t).view.set]{srcQ h} sG m h t c : sProp 𝕄) := by
    rw [srcP_eq, hj, ht]
  have hO : owing c j.val = owing c (j.val + 1) + tallyAt (recvCell (h.to c) j) () (Nx j) := by rw [← hpn]; exact owing_step c j
  unfold World Snd Lend
  rw [bar3]
  iintro ⟨#HR, ⟨⟨%W, HO⟩, HzB, Hroom⟩, ⟨Htok, Hcr, Hat, Hdone⟩, Hlend, Hrest⟩
  ihave Htok := (Entails.of_eq (seg_head j 28 j.isLt _)) $$ Htok
  icases Htok with ⟨⟨HtS, HtR⟩, Htok⟩
  ihave Hroom := (Entails.of_eq (seg_head j 28 j.isLt _)) $$ Hroom
  icases Hroom with ⟨Hr, Hroom⟩
  ihave Hlend := (Entails.of_eq (seg_head j v hv _)) $$ Hlend
  icases Hlend with ⟨Hs, Hlend⟩
  ihave Hr := (Entails.of_eq (show room (peer j c) j = iprop(∃ fd, (dM h t).view.loc ((h.to c : Dev nD) : Thread nD τ) ↦[(dM h t).view.set]{fullShare} fd) from by
    unfold room; rw [hpn, hj, ht]; exact dstA_eq h t (h.to c))) $$ Hr
  icases Hr with ⟨%fd, Hr⟩
  ihave Hs := (Entails.of_eq hs) $$ Hs
  ihave #HIs := (rec_inv m K _ _ (kcell_send c j)) $$ HR
  ihave #HIr := (rec_inv m K _ _ (kcell_recv (h.to c) j)) $$ HR
  ihave #HrS := (rec_reached m K _ _ (kcell_send c j)) $$ HR
  ihave #HrR := (rec_reached m K _ _ (kcell_recv (h.to c) j)) $$ HR
  rw [hpn]
  have hN : (dM h t).view.amount (.dma (recvS j)) = Nx j := by show (dM h t).view.dmaCredit = _; unfold Nx; rw [hj, ht]
  iapply (Rounds.wp_send_pointsTo 𝒱₀ ER (sched m) (c : Thread nD τ) none (κ₁ := K (c, (sendS j : Fin 64))) (κ₂ := K (h.to c, (recvS j : Fin 64)))
    (r₁ := 0) (r₂ := 0) (d₁ := false) (d₂ := false) (fd := fd) (fs := sG m h t c) (q := srcQ h)
    (by rw [duties_send]; exact Finset.mem_singleton_self _) (by rw [duties_recv]; exact Finset.mem_singleton_self _)
    () () (Nx j) hN (amount_send m c j false) (amount_recv m (h.to c) j false) (owing c (j.val + 1)) hO (W := W)
    (by rw [payload_send, hj, ht, srcP_eq]) (by rw [payload_recv, hj, ht, landing])) $$ [Hs Hr HO HtS HtR]
  · isplitr; · iexact HIs
    isplitr; · iexact HIr
    isplitl [Hs]; · iexact Hs
    isplitl [Hr]; · iexact Hr
    isplitl [HO]; · iexact HO
    isplitl [HtS]; · iexact HtS
    isplitr; · iexact HrS
    isplitl [HtR]; · iexact HtR
    iexact HrR
  iintro ⟨Hc, HO⟩
  iapply hk
  unfold World Snd Lend
  rw [bar3]
  isplitr; · iexact HR
  isplitl [HO HzB Hroom]
  · isplitl [HO]; · iexists W; iexact HO
    isplitl [HzB] <;> iassumption
  isplitl [Htok Hc Hcr Hat Hdone]
  · isplitl [Htok]; · iexact Htok
    isplitl [Hc Hcr]
    · iapply (Entails.of_eq (seg_snoc j w hw _).symm)
      isplitl [Hc] <;> iassumption
    isplitl [Hat] <;> iassumption
  isplitl [Hlend] <;> iassumption

end World

end Cert.Gather

end
-- ==== Proof.Steps.lean ====
/-
One rule per kind of effect: a wait, a copy, a barrier signal, the barrier wait.
-/
module

public import proofs.«01_k».proof.Proof.State

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

/-! ## The waits -/

/-- The `j`-th transfer's send wait, every transfer made: its source share is back. -/
theorem step_sendwait {α : Type} {Q : α → sProp 𝕄} (j : Fin 28) {q : DmaSem sig} (hq : q = sendS j)
    {s₁ : Shape} {e₁ : EltTy} {sp₁ sp₂ : Space} {src : Memref sig .tc sp₁ s₁ e₁} {dst : Memref sig .tc sp₂ s₁ e₁}
    {hs : src.view.WordExact} {hd : dst.view.WordExact} (hN : dst.view.dmaCredit = Nx j)
    {k : PUnit → Prog (TpuEff nD τ sig (Elt F) Λ₀ .tc) α}
    (hk : World m K c 3 28 (j.val + 1) v r n d b f ⊢ Wp c (k ⟨⟩) Q) :
    World m K c 3 28 j.val v r n d b f ⊢ Wp c (.op (.waitDma2 q src dst hs hd) k) Q := by
  subst hq
  unfold World Snd
  rw [bar3]
  iintro ⟨#HR, ⟨⟨%W, HO⟩, HzB, Hroom⟩, ⟨Htok, Hcr, Hat, Hdone⟩, Hrest⟩
  ihave Hcr := (Entails.of_eq (seg_head j 28 j.isLt _)) $$ Hcr
  icases Hcr with ⟨Hc, Hcr⟩
  ihave Hat := (Entails.of_eq (seg_head j 28 j.isLt _)) $$ Hat
  icases Hat with ⟨Ha, Hat⟩
  ihave #HI := (rec_inv m K _ _ (kcell_send c j)) $$ HR
  iapply (wait_close m c (K (c, (sendS j : Fin 64))) hN (expect_send m c j) (owing c 28) W) $$ [Hc HO Ha]
  · isplitr; · iexact HI
    isplitl [Hc]; · iexact Hc
    isplitl [HO]; · iexact HO
    isplitr; · rw [owing_end, MayWait_zero]; iempintro
    iexact Ha
  iintro ⟨HO, Hz, Hpay⟩
  ihave Hp := (Entails.of_eq (rest_send m c j)) $$ Hpay
  iapply hk
  unfold World Snd
  rw [bar3]
  isplitr; · iexact HR
  isplitl [HO HzB Hroom]
  · isplitl [HO]; · iexact HO
    isplitl [HzB] <;> iassumption
  isplitl [Htok Hcr Hat Hdone Hz Hp]
  · isplitl [Htok]; · iexact Htok
    isplitl [Hcr]; · iexact Hcr
    isplitl [Hat]; · iexact Hat
    iapply (Entails.of_eq (seg_snoc j 0 (Nat.zero_le _) _).symm)
    isplitr [Hdone]
    · isplitl [Hz] <;> iassumption
    iexact Hdone
  iexact Hrest

/-- A first-hop transfer's receive wait, its device's own first-hop transfers made: what has landed is kept, less what
    the second hop borrows. -/
theorem step_recv1 {α : Type} {Q : α → sProp 𝕄} (j : Fin 28) (hj : j.val < 14) (h14 : 14 ≤ s) (hsv : s ≤ (onward j).val) {q : DmaSem sig} (hq : q = recvS j)
    {s₁ : Shape} {e₁ : EltTy} {sp₁ sp₂ : Space} {src : Memref sig .tc sp₁ s₁ e₁} {dst : Memref sig .tc sp₂ s₁ e₁}
    {hs : src.view.WordExact} {hd : dst.view.WordExact} (hN : dst.view.dmaCredit = Nx j)
    {k : PUnit → Prog (TpuEff nD τ sig (Elt F) Λ₀ .tc) α}
    (hk : World m K c 3 s w ((onward j).val + 1) (j.val + 1) n d b f ⊢ Wp c (k ⟨⟩) Q) :
    World m K c 3 s w (onward j).val j.val n d b f ⊢ Wp c (.op (.waitDma2 q src dst hs hd) k) Q := by
  subst hq
  unfold World Rcv Lend
  rw [bar3]
  iintro ⟨#HR, ⟨⟨%W, HO⟩, HzB, Hroom⟩, Hsnd, Hlend, ⟨Hin, Hkept⟩, Hrest⟩
  ihave Hin := (Entails.of_eq (seg_head j 28 j.isLt _)) $$ Hin
  icases Hin with ⟨⟨Hc, Ha⟩, Hin⟩
  ihave #HI := (rec_inv m K _ _ (kcell_recv c j)) $$ HR
  iapply (wait_close m c (K (c, (recvS j : Fin 64))) hN (expect_recv m c j) (owing c s) W) $$ [Hc HO Ha]
  · isplitr; · iexact HI
    isplitl [Hc]; · iexact Hc
    isplitl [HO]; · iexact HO
    isplitr
    · iapply (mayWait_owing c (.dma (recvS j)) s 2 (by rw [lv_recv, if_pos hj]) (fun i hi => by rw [if_neg (by omega)]; decide))
      iapply (rec_lev m K) $$ HR
    iexact Ha
  iintro ⟨HO, Hz, Hpay⟩
  ihave Hp := (Entails.of_eq ((rest_recv m c j).trans (land_first m j hj c))) $$ Hpay
  icases Hp with ⟨Hp, Hs⟩
  iapply hk
  unfold World Rcv Lend
  rw [bar3]
  isplitr; · iexact HR
  isplitl [HO HzB Hroom]
  · isplitl [HO]; · iexact HO
    isplitl [HzB] <;> iassumption
  isplitl [Hsnd]; · iexact Hsnd
  isplitl [Hlend Hs]
  · iapply (Entails.of_eq (seg_snoc (onward j) s hsv _).symm)
    isplitl [Hs] <;> iassumption
  isplitl [Hin Hkept Hz Hp]
  · isplitl [Hin]; · iexact Hin
    iapply (Entails.of_eq (seg_snoc j 0 (Nat.zero_le _) _).symm)
    isplitr [Hkept]
    · isplitl [Hz] <;> iassumption
    iexact Hkept
  iexact Hrest

/-- A second-hop transfer's receive wait, every transfer made. -/
theorem step_recv2 {α : Type} {Q : α → sProp 𝕄} (j : Fin 28) (hj : 14 ≤ j.val) {q : DmaSem sig} (hq : q = recvS j)
    {s₁ : Shape} {e₁ : EltTy} {sp₁ sp₂ : Space} {src : Memref sig .tc sp₁ s₁ e₁} {dst : Memref sig .tc sp₂ s₁ e₁}
    {hs : src.view.WordExact} {hd : dst.view.WordExact} (hN : dst.view.dmaCredit = Nx j)
    {k : PUnit → Prog (TpuEff nD τ sig (Elt F) Λ₀ .tc) α}
    (hk : World m K c 3 28 w v (j.val + 1) n d b f ⊢ Wp c (k ⟨⟩) Q) :
    World m K c 3 28 w v j.val n d b f ⊢ Wp c (.op (.waitDma2 q src dst hs hd) k) Q := by
  subst hq
  unfold World Rcv
  rw [bar3]
  iintro ⟨#HR, ⟨⟨%W, HO⟩, HzB, Hroom⟩, Hsnd, Hlend, ⟨Hin, Hkept⟩, Hrest⟩
  ihave Hin := (Entails.of_eq (seg_head j 28 j.isLt _)) $$ Hin
  icases Hin with ⟨⟨Hc, Ha⟩, Hin⟩
  ihave #HI := (rec_inv m K _ _ (kcell_recv c j)) $$ HR
  iapply (wait_close m c (K (c, (recvS j : Fin 64))) hN (expect_recv m c j) (owing c 28) W) $$ [Hc HO Ha]
  · isplitr; · iexact HI
    isplitl [Hc]; · iexact Hc
    isplitl [HO]; · iexact HO
    isplitr; · rw [owing_end, MayWait_zero]; iempintro
    iexact Ha
  iintro ⟨HO, Hz, Hpay⟩
  ihave Hp := (Entails.of_eq ((rest_recv m c j).trans (land_second m j hj c))) $$ Hpay
  iapply hk
  unfold World Rcv
  rw [bar3]
  isplitr; · iexact HR
  isplitl [HO HzB Hroom]
  · isplitl [HO]; · iexact HO
    isplitl [HzB] <;> iassumption
  isplitl [Hsnd]; · iexact Hsnd
  isplitl [Hlend]; · iexact Hlend
  isplitl [Hin Hkept Hz Hp]
  · isplitl [Hin]; · iexact Hin
    iapply (Entails.of_eq (seg_snoc j 0 (Nat.zero_le _) _).symm)
    isplitr [Hkept]
    · isplitl [Hz] <;> iassumption
    iexact Hkept
  iexact Hrest

/-! ## The copies -/

/-- The `a`-th copy into a staging scratch. -/
theorem step_copy {α : Type} {Q : α → sProp 𝕄} (a : Fin 7) (t : Tens) (ht : tens a = t) {q : DmaSem sig} (hq : q = copyS a) (hd : d ≤ a.val)
    {hsrc : (arM t).view.WordExact} {hdst : (stM t).view.WordExact} {hsem : DmaTarget.Typed (nD := nD) (τ := τ) (p := .tc) .hbm (.dma q) (.here (stM t))}
    {k : PUnit → Prog (TpuEff nD τ sig (Elt F) Λ₀ .tc) α}
    (hk : World m K c p s w v r (a.val + 1) d b f ⊢ Wp c (k ⟨⟩) Q) :
    World m K c p s w v r a.val d b f ⊢ Wp c (.op (.enqueueDma (arM t) (.here (stM t)) (.dma q) hsrc hdst hsem) k) Q := by
  subst hq
  subst ht
  unfold World Cps
  iintro ⟨#HR, HB, Hsnd, Hlend, Hrcv, ⟨Htodo, Hcr, Hat, Hdone, Hown⟩, Hout⟩
  ihave Htodo := (Entails.of_eq (seg_head a 7 a.isLt _)) $$ Htodo
  icases Htodo with ⟨⟨Ht, Hst, Har⟩, Htodo⟩
  ihave #HI := (rec_inv m K _ _ (kcell_copy c a)) $$ HR
  ihave #Hr := (rec_reached m K _ _ (kcell_copy c a)) $$ HR
  unfold stA
  icases Hst with ⟨%fd, Hst⟩
  iapply (Rounds.wp_copy_pointsTo 𝒱₀ ER (sched m) (c : Thread nD τ) none (κ := K (c, (copyS a : Fin 64))) (r := 0) (d := false) (fd := fd)
    (fs := arG m (tens a) c) (q := fullShare)
    (by rw [duties_copy]; exact Finset.mem_singleton_self _) () (Nc a) rfl (amount_copy m c a false)
    (by rw [payload_copy, staging]; exact BI.Entails.refl _)) $$ [Ht Hst Har]
  · isplitr; · iexact HI
    isplitl [Har]; · unfold arP; iexact Har
    isplitl [Hst]; · iexact Hst
    isplitl [Ht]; · iexact Ht
    iexact Hr
  iintro Hc
  iapply hk
  unfold World Cps stA
  isplitr; · iexact HR
  isplitl [HB]; · iexact HB
  isplitl [Hsnd]; · iexact Hsnd
  isplitl [Hlend]; · iexact Hlend
  isplitl [Hrcv]; · iexact Hrcv
  isplitr [Hout]
  · isplitl [Htodo]; · iexact Htodo
    isplitl [Hc Hcr]
    · iapply (Entails.of_eq (seg_snoc a d hd _).symm)
      isplitl [Hc] <;> iassumption
    isplitl [Hat]; · iexact Hat
    isplitl [Hdone] <;> iassumption
  iexact Hout

/-- The wait for the `a`-th copy. -/
theorem step_copywait {α : Type} {Q : α → sProp 𝕄} (a : Fin 7) (hn : a.val < n) {q : DmaSem sig} (hq : q = copyS a)
    {s₁ : Shape} {e₁ : EltTy} {sp₁ sp₂ : Space} {src : Memref sig .tc sp₁ s₁ e₁} {dst : Memref sig .tc sp₂ s₁ e₁}
    {hs : src.view.WordExact} {hd : dst.view.WordExact} (hN : dst.view.dmaCredit = Nc a)
    {k : PUnit → Prog (TpuEff nD τ sig (Elt F) Λ₀ .tc) α}
    (hk : World m K c 3 s w v r n (a.val + 1) b f ⊢ Wp c (k ⟨⟩) Q) :
    World m K c 3 s w v r n a.val b f ⊢ Wp c (.op (.waitDma2 q src dst hs hd) k) Q := by
  subst hq
  unfold World Cps
  rw [bar3]
  iintro ⟨#HR, ⟨⟨%W, HO⟩, HzB, Hroom⟩, Hsnd, Hlend, Hrcv, ⟨Htodo, Hcr, Hat, Hdone, Hown⟩, Hout⟩
  ihave Hcr := (Entails.of_eq (seg_head a n hn _)) $$ Hcr
  icases Hcr with ⟨Hc, Hcr⟩
  ihave Hat := (Entails.of_eq (seg_head a 7 a.isLt _)) $$ Hat
  icases Hat with ⟨Ha, Hat⟩
  ihave #HI := (rec_inv m K _ _ (kcell_copy c a)) $$ HR
  iapply (wait_close m c (K (c, (copyS a : Fin 64))) hN (expect_copy m c a) (owing c s) W) $$ [Hc HO Ha]
  · isplitr; · iexact HI
    isplitl [Hc]; · iexact Hc
    isplitl [HO]; · iexact HO
    isplitr
    · iapply (mayWait_owing c (.dma (copyS a)) s 0 (by show useLv (use (copyS a).val) ≤ 0; rw [use_copy]; exact Nat.le_refl _) (fun i hi => by split <;> decide))
      iapply (rec_lev m K) $$ HR
    iexact Ha
  iintro ⟨HO, Hz, Hpay⟩
  ihave Hp := (Entails.of_eq (rest_copy m c a)) $$ Hpay
  iapply hk
  unfold World Cps
  rw [bar3]
  isplitr; · iexact HR
  isplitl [HO HzB Hroom]
  · isplitl [HO]; · iexact HO
    isplitl [HzB] <;> iassumption
  isplitl [Hsnd]; · iexact Hsnd
  isplitl [Hlend]; · iexact Hlend
  isplitl [Hrcv]; · iexact Hrcv
  isplitr [Hout]
  · isplitl [Htodo]; · iexact Htodo
    isplitl [Hcr]; · iexact Hcr
    isplitl [Hat]; · iexact Hat
    isplitl [Hdone Hz Hp]
    · iapply (Entails.of_eq (seg_snoc a 0 (Nat.zero_le _) _).symm)
      isplitr [Hdone]
      · isplitl [Hz] <;> iassumption
      iexact Hdone
    iexact Hown
  iexact Hout

/-! ## The barrier -/

theorem bar1 (s : ℕ) : Bar (F := F) c 1 s = iprop((∃ W, owes (c : Thread nD τ) (O₁ c) W)
      ∗ (dutyTok ER (barCell (nxt c)) 0 false ∗ barPay (nxt c) false) ∗ cred (tallyAt (barCell c) () 2) ∗ atPos ER (barCell c) 0 ∅ 0) := rfl
theorem bar2 (s : ℕ) : Bar (F := F) c 2 s = iprop((∃ W, owes (c : Thread nD τ) (owing c 0) W) ∗ cred (tallyAt (barCell c) () 2) ∗ atPos ER (barCell c) 0 ∅ 0) := rfl

/-- The first signal, to the left neighbour: room here for what comes from there. -/
theorem step_signal1 {α : Type} {Q : α → sProp 𝕄} (n' : Dev nD) (hn : n' = prv c) {k' : ℕ} (hk' : 1 = k')
    {k : PUnit → Prog (TpuEff nD τ sig (Elt F) Λ₀ .tc) α}
    (hk : World m K c 1 s w v r n d b f ⊢ Wp c (k ⟨⟩) Q) :
    World m K c 0 s w v r n d b f ⊢ Wp c (.op (.semSignal (Dev.tc n' : Thread nD τ) barS k') k) Q := by
  subst hn; subst hk'
  unfold World
  rw [show Bar (F := F) c 0 s = iprop((∃ W, owes (c : Thread nD τ) (O₀ c) W) ∗ (dutyTok ER (barCell (prv c)) 0 true ∗ barPay (prv c) true)
      ∗ (dutyTok ER (barCell (nxt c)) 0 false ∗ barPay (nxt c) false) ∗ cred (tallyAt (barCell c) () 2) ∗ atPos ER (barCell c) 0 ∅ 0) from rfl]
  iintro ⟨#HR, ⟨⟨%W, HO⟩, ⟨Ht, Hp⟩, HB⟩, Hrest⟩
  ihave #HI := (rec_inv m K _ _ (kcell_bar (prv c))) $$ HR
  ihave #Hr := (rec_reached m K _ _ (kcell_bar (prv c))) $$ HR
  iapply (Rounds.wp_signal 𝒱₀ ER (sched m) (c : Thread nD τ) none (dst := (prv c : Thread nD τ)) (κ := K (prv c, kB))
      (d := true) (by rw [duties_bar]; exact Finset.mem_univ _) (amount_bar m (prv c) true) () (O₁ c) rfl) $$ [HO Ht Hp]
  · isplitr; · iexact HI
    isplitl [HO]; · iexact HO
    isplitl [Ht]; · iexact Ht
    isplitl [Hp]; · rw [payload_bar]; iexact Hp
    iexact Hr
  iintro HO
  iapply hk
  unfold World
  isplitr; · iexact HR
  isplitr [Hrest]
  · rw [bar1]
    isplitl [HO]; · iexists W; iexact HO
    iexact HB
  iexact Hrest

/-- The second, to the right neighbour. -/
theorem step_signal2 {α : Type} {Q : α → sProp 𝕄} (n' : Dev nD) (hn : n' = nxt c) {k' : ℕ} (hk' : 1 = k')
    {k : PUnit → Prog (TpuEff nD τ sig (Elt F) Λ₀ .tc) α}
    (hk : World m K c 2 s w v r n d b f ⊢ Wp c (k ⟨⟩) Q) :
    World m K c 1 s w v r n d b f ⊢ Wp c (.op (.semSignal (Dev.tc n' : Thread nD τ) barS k') k) Q := by
  subst hn; subst hk'
  unfold World
  rw [bar1]
  iintro ⟨#HR, ⟨⟨%W, HO⟩, ⟨Ht, Hp⟩, HB⟩, Hrest⟩
  ihave #HI := (rec_inv m K _ _ (kcell_bar (nxt c))) $$ HR
  ihave #Hr := (rec_reached m K _ _ (kcell_bar (nxt c))) $$ HR
  iapply (Rounds.wp_signal 𝒱₀ ER (sched m) (c : Thread nD τ) none (dst := (nxt c : Thread nD τ)) (κ := K (nxt c, kB))
      (d := false) (by rw [duties_bar]; exact Finset.mem_univ _) (amount_bar m (nxt c) false) () (owing c 0) rfl) $$ [HO Ht Hp]
  · isplitr; · iexact HI
    isplitl [HO]; · iexact HO
    isplitl [Ht]; · iexact Ht
    isplitl [Hp]; · rw [payload_bar]; iexact Hp
    iexact Hr
  iintro HO
  iapply hk
  unfold World
  isplitr; · iexact HR
  isplitr [Hrest]
  · rw [bar2]
    isplitl [HO]; · iexists W; iexact HO
    iexact HB
  iexact Hrest

/-- The rooms at the two neighbours are the rooms of all the transfers. -/
theorem rooms_join : iprop(barPay (F := F) c true ∗ barPay c false) = (seg 0 28 fun j : Fin 28 => room (peer j c) j) := by
  rw [seg_all]
  unfold barPay goes
  have h : (Finset.univ.filter fun j : Fin 28 => (hop j).right = false) = Finset.univ.filter fun j : Fin 28 => ¬ (hop j).right = true := by
    ext j; simp
  rw [h]
  exact (BI.bigSep_filter_split _ _).symm

/-- The wait for both: room at both neighbours for every transfer. -/
theorem step_barrier {α : Type} {Q : α → sProp 𝕄} {k' : ℕ} (hk' : k' = 2)
    {k : PUnit → Prog (TpuEff nD τ sig (Elt F) Λ₀ .tc) α}
    (hk : World m K c 3 0 w v r n d b f ⊢ Wp c (k ⟨⟩) Q) :
    World m K c 2 0 w v r n d b f ⊢ Wp c (.op (.semWait barS k') k) Q := by
  subst hk'
  unfold World
  rw [bar2]
  iintro ⟨#HR, ⟨⟨%W, HO⟩, Hc, Ha⟩, Hrest⟩
  ihave #HI := (rec_inv m K _ _ (kcell_bar c)) $$ HR
  iapply (Rounds.wp_wait_rest_token 𝒱₀ ER (sched m) (c : Thread nD τ) none (κ := K (c, kB))
      (wpE_semWait_eq 𝒱₀ (c : Thread nD τ) none Set.univ) (Set.mem_univ _) () (O := owing c 0) (W := W) (R := 0) (m := 0) (T := ∅)
      (by rw [expect_bar])) $$ [Hc HO Ha]
  · isplitr; · iexact HI
    isplitl [Hc]; · iexact Hc
    isplitl [HO]; · iexact HO
    isplitr
    · iapply (mayWait_owing c (.reg barS) 0 1 (Nat.le_refl _) (fun i hi => by split <;> decide))
      iapply (rec_lev m K) $$ HR
    iexact Ha
  iintro ⟨HO, Ha, -, Hpay⟩
  ihave Hp := (Entails.of_eq ((rest_bar m c).trans (rooms_join c))) $$ Hpay
  imod (Rounds.cell_close ER (sched m) (Set.mem_univ (K (c, kB))) (fun h => h) (R := 0 + 1) (duties_later m (barCell c))) $$ [Ha] with Hz
  · isplitr; · iexact HI
    iexact Ha
  iapply hk
  unfold World
  rw [bar3]
  isplitr; · iexact HR
  isplitr [Hrest]
  · isplitl [HO]; · iexists _; iexact HO
    isplitl [Hz] <;> iassumption
  iexact Hrest

end Cert.Gather

end
-- ==== Proof.Fill.lean ====
/-
A device's own chunk: the staged block is loaded, cast, and stored at the start of the gather buffer.
-/
module

public import proofs.«01_k».proof.Proof.Steps

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

/-- The load of a staged block, a load of where it goes whose value is not used, and the store of what `pay` makes of
    the block: the stored elements hold `g`. -/
theorem fill_ops {α : Type} {Q : α → sProp 𝕄} {s₁ s₂ : Shape} {M : Memref sig .tc .vmem s₁ .f32} {N : Memref sig .tc .vmem s₂ .bf16}
    {rS : Rect s₁} {rC : Rect s₂} {hl : M.view.LoadsAt rS.toLoadRect} {hl' : N.view.LoadsAt rC.toLoadRect}
    {SS : Finset (Idx (M.view.loc (c : Thread nD τ)))} {SC : Finset (Idx (N.view.loc (c : Thread nD τ)))}
    {fS : Buf (Elt F) (M.view.loc (c : Thread nD τ))} {g : Buf (Elt F) (N.view.loc (c : Thread nD τ))}
    (pay : (rS.shape.Idx → Elt F .f32) → rC.shape.Idx → Elt F .bf16)
    (hS : (M.access rS).set ⊆ SS) (hC : (N.access rC).set = SC)
    (hpay : pay ((M.access rS).read (Elt F) fS) = (N.access rC).read (Elt F) g)
    {hx : (N.access rC).Stores Finset.univ} {hm : Finset.univ = Finset.univ ∨ ∀ a, rC.stride a = 1}
    {k : PUnit → Prog (TpuEff nD τ sig (Elt F) Λ₀ .tc) α} :
    iprop((M.view.loc (c : Thread nD τ) ↦[SS]{fullShare} fS) ∗ (∃ fC : Buf (Elt F) (N.view.loc (c : Thread nD τ)), N.view.loc (c : Thread nD τ) ↦[SC]{fullShare} fC)
        ∗ (((M.view.loc (c : Thread nD τ) ↦[SS]{fullShare} fS) ∗ (N.view.loc (c : Thread nD τ) ↦[SC]{fullShare} g)) -∗ Wp c (k ⟨⟩) Q))
      ⊢ Wp c (.op (.load M rS.toLoadRect hl) fun v => .op (.load N rC.toLoadRect hl') fun _ => .op (.store N rC (pay v) Finset.univ hx hm) k) Q := by
  iintro ⟨Hs, ⟨%fC, Hc⟩, Hk⟩
  iapply (wp_load_rect 𝒱₀ (c : Thread nD τ) none Set.univ (m := M) (r := rS) hS) $$ Hs; iintro Hs
  iapply (wp_load_rect 𝒱₀ (c : Thread nD τ) none Set.univ (m := N) (r := rC) (S := SC) (by rw [hC])) $$ Hc; iintro Hc
  iapply (wp_store 𝒱₀ (c : Thread nD τ) none Set.univ (m := N) (r := rC) (Mk := Finset.univ) (S := SC) (by rw [View.setOn_univ, hC])) $$ Hc; iintro Hc
  iapply Hk
  isplitl [Hs]; · iexact Hs
  rw [hpay, View.write_read_eq_piecewise, View.setOn_univ]
  have hcg : (N.view.loc (c : Thread nD τ) ↦[SC]{fullShare} (N.access rC).set.piecewise g fC : sProp 𝕄) = (N.view.loc (c : Thread nD τ) ↦[SC]{fullShare} g) :=
    pointsTo_congr (fun i hi => Finset.piecewise_eq_of_mem _ _ _ (by rw [hC]; exact hi))
  iapply (Entails.of_eq hcg) $$ Hc

/-- Storing the `a`-th array's own chunk, given what its three operations do. -/
theorem fill_world {α : Type} {Q : α → sProp 𝕄} (a : Fin 7) (t : Tens) (ht : tens a = t) (hd : a.val < d) (hsv : s ≤ 2 * a.val)
    {e : Prog (TpuEff nD τ sig (Elt F) Λ₀ .tc) α} {k : PUnit → Prog (TpuEff nD τ sig (Elt F) Λ₀ .tc) α}
    (hops : iprop(stP m t c ∗ cAny t 0 c ∗ ((stP m t c ∗ cPts m t 0 c fullShare) -∗ Wp c (k ⟨⟩) Q)) ⊢ Wp c e Q)
    (hk : World m K c p s w (2 * a.val + 1 + 1) r n d (a.val + 1) f ⊢ Wp c (k ⟨⟩) Q) :
    World m K c p s w (2 * a.val) r n d a.val f ⊢ Wp c e Q := by
  subst ht
  have hpick : (seg 0 d fun a : Fin 7 => iprop(semVal (copyCell c a) 0 ∗ stP m (tens a) c ∗ arP m (tens a) c) : sProp 𝕄)
      = iprop((semVal (copyCell c a) 0 ∗ stP m (tens a) c ∗ arP m (tens a) c)
        ∗ bigSep ((Finset.univ.filter fun j : Fin 7 => 0 ≤ j.val ∧ j.val < d).erase a) fun a => iprop(semVal (copyCell c a) 0 ∗ stP m (tens a) c ∗ arP m (tens a) c)) := by
    unfold seg
    exact BI.bigSep_erase (Finset.mem_filter.mpr ⟨Finset.mem_univ a, Nat.zero_le _, hd⟩)
  have hA : ∀ (j : Fin 28), j.val = 2 * a.val → hop j = .r1 ∧ tn j = tens a := fun j hj =>
    ⟨by unfold hop; rw [if_pos (by omega), if_pos (by omega)], congrArg tens (Fin.ext (show j.val % 14 / 2 = a.val by omega))⟩
  have hB : ∀ (j : Fin 28), j.val = 2 * a.val + 1 → hop j = .l1 ∧ tn j = tens a := fun j hj =>
    ⟨by unfold hop; rw [if_pos (by omega), if_neg (by omega)], congrArg tens (Fin.ext (show j.val % 14 / 2 = a.val by omega))⟩
  have hlend : (Lend m c s (2 * a.val + 1 + 1) : sProp 𝕄) = iprop(srcP m .l1 (tens a) c ∗ srcP m .r1 (tens a) c ∗ Lend m c s (2 * a.val)) := by
    unfold Lend
    have h1 := seg_snoc (F := F) (⟨2 * a.val + 1, by omega⟩ : Fin 28) s (by show s ≤ 2 * a.val + 1; omega) fun j : Fin 28 => srcP m (hop j) (tn j) c
    have h2 := seg_snoc (F := F) (⟨2 * a.val, by omega⟩ : Fin 28) s hsv fun j : Fin 28 => srcP m (hop j) (tn j) c
    rw [(hB ⟨2 * a.val + 1, by omega⟩ rfl).1, (hB ⟨2 * a.val + 1, by omega⟩ rfl).2] at h1
    rw [(hA ⟨2 * a.val, by omega⟩ rfl).1, (hA ⟨2 * a.val, by omega⟩ rfl).2] at h2
    exact h1.trans (congrArg (fun P => iprop(srcP m .l1 (tens a) c ∗ P)) h2)
  unfold World Cps
  rw [hpick]
  iintro ⟨#HR, HB, Hsnd, Hlend, Hrcv, ⟨Htodo, Hcr, Hat, ⟨⟨Hz, Hst, Har⟩, Hdone⟩, Hblank, Hown⟩, Hout⟩
  ihave Hblank := (Entails.of_eq (seg_head a 7 a.isLt _)) $$ Hblank
  icases Hblank with ⟨Hch, Hblank⟩
  iapply hops
  isplitl [Hst]; · iexact Hst
  isplitl [Hch]; · iexact Hch
  iintro ⟨Hst, Hch⟩
  ihave Hch := (Entails.of_eq (own_split m (tens a) c)) $$ Hch
  icases Hch with ⟨Hl, Hr1, Hl1⟩
  iapply hk
  unfold World Cps
  rw [hpick, hlend]
  isplitr; · iexact HR
  isplitl [HB]; · iexact HB
  isplitl [Hsnd]; · iexact Hsnd
  isplitl [Hlend Hr1 Hl1]
  · isplitl [Hl1]; · iexact Hl1
    isplitl [Hr1] <;> iassumption
  isplitl [Hrcv]; · iexact Hrcv
  isplitr [Hout]
  · isplitl [Htodo]; · iexact Htodo
    isplitl [Hcr]; · iexact Hcr
    isplitl [Hat]; · iexact Hat
    isplitl [Hz Hst Har Hdone]
    · isplitr [Hdone]
      · isplitl [Hz]; · iexact Hz
        isplitl [Hst] <;> iassumption
      iexact Hdone
    isplitl [Hblank]; · iexact Hblank
    iapply (Entails.of_eq (seg_snoc a 0 (Nat.zero_le _) _).symm)
    isplitl [Hl] <;> iassumption
  iexact Hout

/-! ## The three families -/

theorem stM_setWi (l : Fin 3) : (stM (.wi l)).view.set = (Rect.unit (s := S3x128x256) ![l.val, 0, 0] S1x128x256.size (inbSi l)).set :=
  (Memref.set_view_squeeze _ squeezes_S1x128x256_S128x256).trans (View.set_slice_whole cc0_scratch1 (Rect.unit (s := S3x128x256) ![l.val, 0, 0] S1x128x256.size (inbSi l)))
theorem stM_setWo (l : Fin 3) : (stM (.wo l)).view.set = (Rect.unit (s := S3x256x128) ![l.val, 0, 0] S1x256x128.size (inbSo l)).set :=
  (Memref.set_view_squeeze _ squeezes_S1x256x128_S256x128).trans (View.set_slice_whole cc0_scratch2 (Rect.unit (s := S3x256x128) ![l.val, 0, 0] S1x256x128.size (inbSo l)))

theorem hz2 : (![0, 0] : Fin 2 → Nat) = fun _ => 0 := funext fun a => by fin_cases a <;> rfl

/-- The cast block of `x` is the first chunk of the gathered array. -/
theorem pay_x (g : S128x128.Idx → Elt F .f32) (hg : g = ax m c) :
    k0_pay1 (F := F) g = ((Memref.whole cc0_scratch3 : Memref sig .tc .vmem S512x128 .bf16).access (Rect.unit (s := S512x128) ![0, 0] S128x128.size (inbX 0))).read (Elt F) (gX m c) := by
  subst hg
  refine Eq.trans ?_ (read_ch m .x 0 c).symm
  unfold k0_pay1
  refine (shapeCast_self _ _).trans ?_
  show blk m .x c = blk m .x (dv c 0)
  rw [dv_zero]

theorem pay_wi (l : Fin 3) (g : S1x128x256.Idx → Elt F .f32) (hg : ∀ i j, g (ix3 (0 : Fin 1) i j) = awi m l c (ix2 i j)) :
    k0_pay2 (F := F) g = ((Memref.whole cc0_scratch4 : Memref sig .tc .vmem S3x128x1024 .bf16).access (Rect.unit (s := S3x128x1024) ![l.val, 0, 0] S1x128x256.size (inbWi l 0))).read (Elt F) (gWi m c) := by
  funext (y : S1x128x256.Idx)
  have hy : y = ix3 (0 : Fin 1) (y 1) (y 2) := by
    funext a; fin_cases a
    · exact Fin.ext (by have : (y 0).val < 1 := (y 0).isLt; show (y 0).val = 0; omega)
    · rfl
    · rfl
  have hr : gWi m c ((Rect.unit (s := S3x128x1024) ![l.val, 0, 0] S1x128x256.size (inbWi l 0)).emb y) = blk m (.wi l) (dv c 0) (ix2 (y 1) (y 2)) := by
    have h0 : (y 0).val = 0 := by have : (y 0).val < 1 := (y 0).isLt; omega
    refine gWi_at m c l 0 _ (y 1) (y 2) ?_ ?_ ?_
    · exact (ValueKit.rect_emb_unit_val _ _ _ _ _).trans (congrArg (l.val + ·) h0)
    · exact (ValueKit.rect_emb_unit_val _ _ _ _ _).trans (Nat.zero_add _)
    · exact (ValueKit.rect_emb_unit_val _ _ _ _ _).trans rfl
  refine Eq.trans ?_ hr.symm
  rw [dv_zero]
  refine (congrArg (k0_pay2 (F := F) g) hy).trans ?_
  unfold k0_pay2
  refine (shapeCast_ab_1ab_apply _ shapeCasts_S128x256_S1x128x256 (0 : Fin 1) (y 1) (y 2)).trans ?_
  exact congrArg (fun z : F .f32 => (FloatOps.truncf .bf16 bitsLt_bf16_f32 z : F .bf16)) ((shapeCast_1ab_ab_apply g shapeCasts_S1x128x256_S128x256 (y 1) (y 2)).trans (hg _ _))

theorem pay_wo (l : Fin 3) (g : S1x256x128.Idx → Elt F .f32) (hg : ∀ i j, g (ix3 (0 : Fin 1) i j) = awo m l c (ix2 i j)) :
    k0_pay3 (F := F) g = ((Memref.whole cc0_scratch5 : Memref sig .tc .vmem S3x1024x128 .bf16).access (Rect.unit (s := S3x1024x128) ![l.val, 0, 0] S1x256x128.size (inbWo l 0))).read (Elt F) (gWo m c) := by
  funext (y : S1x256x128.Idx)
  have h0 : (y 0).val = 0 := by have : (y 0).val < 1 := (y 0).isLt; omega
  have hy : y = ix3 (0 : Fin 1) (y 1) (y 2) := by
    funext a; fin_cases a
    · exact Fin.ext h0
    · rfl
    · rfl
  have hr : gWo m c ((Rect.unit (s := S3x1024x128) ![l.val, 0, 0] S1x256x128.size (inbWo l 0)).emb y) = blk m (.wo l) (dv c 0) (ix2 (y 1) (y 2)) := by
    refine gWo_at m c l 0 _ (y 1) (y 2) ?_ ?_ ?_
    · exact (ValueKit.rect_emb_unit_val _ _ _ _ _).trans (congrArg (l.val + ·) h0)
    · exact (ValueKit.rect_emb_unit_val _ _ _ _ _).trans rfl
    · exact (ValueKit.rect_emb_unit_val _ _ _ _ _).trans (Nat.zero_add _)
  refine Eq.trans ?_ hr.symm
  rw [dv_zero]
  refine (congrArg (k0_pay3 (F := F) g) hy).trans ?_
  unfold k0_pay3
  refine (shapeCast_ab_1ab_apply _ shapeCasts_S256x128_S1x256x128 (0 : Fin 1) (y 1) (y 2)).trans ?_
  exact congrArg (fun z : F .f32 => (FloatOps.truncf .bf16 bitsLt_bf16_f32 z : F .bf16)) ((shapeCast_1ab_ab_apply g shapeCasts_S1x256x128_S256x128 (y 1) (y 2)).trans (hg _ _))

theorem fill_x {α : Type} {Q : α → sProp 𝕄} (hd : 0 < d) (hsv : s ≤ 0)
    {hl hl' hx hm} {k : PUnit → Prog (TpuEff nD τ sig (Elt F) Λ₀ .tc) α}
    (hk : World m K c p s w 2 r n d 1 f ⊢ Wp c (k ⟨⟩) Q) :
    World m K c p s w 0 r n d 0 f
      ⊢ Wp c (.op (.load (Memref.whole cc0_scratch0 : Memref sig .tc .vmem S128x128 .f32) (Rect.unit (s := S128x128) ![0, 0] S128x128.size inb_S128x128_S128x128_0_0).toLoadRect hl) fun v =>
        .op (.load (Memref.whole cc0_scratch3 : Memref sig .tc .vmem S512x128 .bf16) (Rect.unit (s := S512x128) ![0, 0] S128x128.size (inbX 0)).toLoadRect hl') fun _ =>
        .op (.store (Memref.whole cc0_scratch3 : Memref sig .tc .vmem S512x128 .bf16) (Rect.unit (s := S512x128) ![0, 0] S128x128.size (inbX 0)) (k0_pay1 v) Finset.univ hx hm) k) Q := by
  refine fill_world m K c 0 .x rfl hd hsv ?_ hk
  refine fill_ops c (M := (Memref.whole cc0_scratch0 : Memref sig .tc .vmem S128x128 .f32)) (N := (Memref.whole cc0_scratch3 : Memref sig .tc .vmem S512x128 .bf16))
    (rS := Rect.unit (s := S128x128) ![0, 0] S128x128.size inb_S128x128_S128x128_0_0) (rC := Rect.unit (s := S512x128) ![0, 0] S128x128.size (inbX 0)) (k0_pay1 (F := F)) (g := gX m c) (SS := (stM .x).view.set) (SC := cSet .x 0) (fS := ax m c) ?_ ?_ ?_
  · rw [View.set_slice]; exact View.setOn_subset_set _ _
  · exact (View.set_slice_whole cc0_scratch3 _).trans (rectX_set 0)
  · exact pay_x m c _ (Memref.readAt_unit_zero (Elt F) cc0_scratch0 hz2 _ (ax m c))

theorem fill_wi {α : Type} {Q : α → sProp 𝕄} (l : Fin 3) (a : Fin 7) (ht : tens a = .wi l) (hd : a.val < d) (hsv : s ≤ 2 * a.val)
    (pay : (S1x128x256.Idx → Elt F .f32) → S1x128x256.Idx → Elt F .bf16) (hpay : pay = k0_pay2)
    {hl hl' hx hm} {k : PUnit → Prog (TpuEff nD τ sig (Elt F) Λ₀ .tc) α}
    (hk : World m K c p s w (2 * a.val + 1 + 1) r n d (a.val + 1) f ⊢ Wp c (k ⟨⟩) Q) :
    World m K c p s w (2 * a.val) r n d a.val f
      ⊢ Wp c (.op (.load (Memref.whole cc0_scratch1 : Memref sig .tc .vmem S3x128x256 .f32) (Rect.unit (s := S3x128x256) ![l.val, 0, 0] S1x128x256.size (inbSi l)).toLoadRect hl) fun v =>
        .op (.load (Memref.whole cc0_scratch4 : Memref sig .tc .vmem S3x128x1024 .bf16) (Rect.unit (s := S3x128x1024) ![l.val, 0, 0] S1x128x256.size (inbWi l 0)).toLoadRect hl') fun _ =>
        .op (.store (Memref.whole cc0_scratch4 : Memref sig .tc .vmem S3x128x1024 .bf16) (Rect.unit (s := S3x128x1024) ![l.val, 0, 0] S1x128x256.size (inbWi l 0)) (pay v) Finset.univ hx hm) k) Q := by
  subst hpay
  refine fill_world m K c a (.wi l) ht hd hsv ?_ hk
  refine fill_ops c (M := (Memref.whole cc0_scratch1 : Memref sig .tc .vmem S3x128x256 .f32)) (N := (Memref.whole cc0_scratch4 : Memref sig .tc .vmem S3x128x1024 .bf16))
    (rS := Rect.unit (s := S3x128x256) ![l.val, 0, 0] S1x128x256.size (inbSi l)) (rC := Rect.unit (s := S3x128x1024) ![l.val, 0, 0] S1x128x256.size (inbWi l 0)) (k0_pay2 (F := F)) (g := gWi m c) (SS := (stM (.wi l)).view.set) (SC := cSet (.wi l) 0) (fS := stWi m c) ?_ ?_ ?_
  · refine subset_of_eq ((View.set_slice_whole cc0_scratch1 _).trans (stM_setWi l).symm)
  · exact (View.set_slice_whole cc0_scratch4 _).trans (rectWi_set l 0)
  · refine pay_wi m c l _ fun i j => ?_
    refine awi_congr m c (Fin.ext ?_) (Fin.ext ?_) (Fin.ext ?_)
    · exact (ValueKit.rect_emb_unit_val _ _ _ _ _).trans (Nat.add_zero _)
    · exact (ValueKit.rect_emb_unit_val _ _ _ _ _).trans (Nat.zero_add _)
    · exact (ValueKit.rect_emb_unit_val _ _ _ _ _).trans (Nat.zero_add _)

theorem fill_wo {α : Type} {Q : α → sProp 𝕄} (l : Fin 3) (a : Fin 7) (ht : tens a = .wo l) (hd : a.val < d) (hsv : s ≤ 2 * a.val)
    (pay : (S1x256x128.Idx → Elt F .f32) → S1x256x128.Idx → Elt F .bf16) (hpay : pay = k0_pay3)
    {hl hl' hx hm} {k : PUnit → Prog (TpuEff nD τ sig (Elt F) Λ₀ .tc) α}
    (hk : World m K c p s w (2 * a.val + 1 + 1) r n d (a.val + 1) f ⊢ Wp c (k ⟨⟩) Q) :
    World m K c p s w (2 * a.val) r n d a.val f
      ⊢ Wp c (.op (.load (Memref.whole cc0_scratch2 : Memref sig .tc .vmem S3x256x128 .f32) (Rect.unit (s := S3x256x128) ![l.val, 0, 0] S1x256x128.size (inbSo l)).toLoadRect hl) fun v =>
        .op (.load (Memref.whole cc0_scratch5 : Memref sig .tc .vmem S3x1024x128 .bf16) (Rect.unit (s := S3x1024x128) ![l.val, 0, 0] S1x256x128.size (inbWo l 0)).toLoadRect hl') fun _ =>
        .op (.store (Memref.whole cc0_scratch5 : Memref sig .tc .vmem S3x1024x128 .bf16) (Rect.unit (s := S3x1024x128) ![l.val, 0, 0] S1x256x128.size (inbWo l 0)) (pay v) Finset.univ hx hm) k) Q := by
  subst hpay
  refine fill_world m K c a (.wo l) ht hd hsv ?_ hk
  refine fill_ops c (M := (Memref.whole cc0_scratch2 : Memref sig .tc .vmem S3x256x128 .f32)) (N := (Memref.whole cc0_scratch5 : Memref sig .tc .vmem S3x1024x128 .bf16))
    (rS := Rect.unit (s := S3x256x128) ![l.val, 0, 0] S1x256x128.size (inbSo l)) (rC := Rect.unit (s := S3x1024x128) ![l.val, 0, 0] S1x256x128.size (inbWo l 0)) (k0_pay3 (F := F)) (g := gWo m c) (SS := (stM (.wo l)).view.set) (SC := cSet (.wo l) 0) (fS := stWo m c) ?_ ?_ ?_
  · refine subset_of_eq ((View.set_slice_whole cc0_scratch2 _).trans (stM_setWo l).symm)
  · exact (View.set_slice_whole cc0_scratch5 _).trans (rectWo_set l 0)
  · refine pay_wo m c l _ fun i j => ?_
    refine awo_congr m c (Fin.ext ?_) (Fin.ext ?_) (Fin.ext ?_)
    · exact (ValueKit.rect_emb_unit_val _ _ _ _ _).trans (Nat.add_zero _)
    · exact (ValueKit.rect_emb_unit_val _ _ _ _ _).trans (Nat.zero_add _)
    · exact (ValueKit.rect_emb_unit_val _ _ _ _ _).trans (Nat.zero_add _)

end Cert.Gather

end
-- ==== Proof.Loads.lean ====
/-
Reading a whole gathered array, and storing the result's four row blocks.
-/
module

public import proofs.«01_k».proof.Proof.Fill

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

/-- One array's elements, all of them. -/
def tPts (t : Tens) (c : Dev nD) (q : PosShare TreeShare) : sProp 𝕄 := gloc t c ↦[tSet t]{q} gat m t c

/-- A whole array at a share is its chunks; the third chunk arrives as two halves. -/
theorem tPts_eq (t : Tens) (q : PosShare TreeShare) :
    tPts m t c q = iprop(cPts m t 0 c q ∗ cPts m t 1 c q ∗ (hPts m t 2 0 c q ∗ hPts m t 2 1 c q) ∗ cPts m t 3 c q) := by
  unfold tPts
  rw [pts_chunks, pts_halves t 2]
  rfl

/-- Four members of a family apart. -/
theorem pick4 {ι : Type} [DecidableEq ι] (S : Finset ι) (Φ : ι → sProp 𝕄) (i j k l : ι) (hi : i ∈ S) (hj : j ∈ S) (hk : k ∈ S) (hl : l ∈ S)
    (hij : j ≠ i) (hik : k ≠ i) (hil : l ≠ i) (hjk : k ≠ j) (hjl : l ≠ j) (hkl : l ≠ k) :
    bigSep S Φ = iprop(Φ i ∗ Φ j ∗ Φ k ∗ Φ l ∗ bigSep ((((S.erase i).erase j).erase k).erase l) Φ) := by
  rw [BI.bigSep_erase hi, BI.bigSep_erase (Finset.mem_erase.mpr ⟨hij, hj⟩), BI.bigSep_erase (Finset.mem_erase.mpr ⟨hjk, Finset.mem_erase.mpr ⟨hik, hk⟩⟩),
    BI.bigSep_erase (Finset.mem_erase.mpr ⟨hkl, Finset.mem_erase.mpr ⟨hjl, Finset.mem_erase.mpr ⟨hil, hl⟩⟩⟩)]
  rfl

theorem pick1 {ι : Type} [DecidableEq ι] (S : Finset ι) (Φ : ι → sProp 𝕄) (i : ι) (hi : i ∈ S) : bigSep S Φ = iprop(Φ i ∗ bigSep (S.erase i) Φ) := BI.bigSep_erase hi

/-- Once every array has its own chunk and the `a`-th array's four hops have landed, that array can be read whole. -/
theorem lend_array (a : Fin 7) (t : Tens) (ht : tens a = t) (hr : 14 + 2 * a.val + 1 < r) :
    World m K c p s w v r n d 7 f ⊢ iprop(tPts m t c fullShare.left ∗ (tPts m t c fullShare.left -∗ World m K c p s w v r n d 7 f)) := by
  subst ht
  have ha := a.isLt
  have hop1 : hop ⟨2 * a.val, by omega⟩ = .r1 ∧ tn ⟨2 * a.val, by omega⟩ = tens a :=
    ⟨by unfold hop; rw [if_pos (show 2 * a.val < 14 by omega), if_pos (show 2 * a.val % 2 = 0 by omega)], congrArg tens (Fin.ext (show 2 * a.val % 14 / 2 = a.val by omega))⟩
  have hop2 : hop ⟨2 * a.val + 1, by omega⟩ = .l1 ∧ tn ⟨2 * a.val + 1, by omega⟩ = tens a :=
    ⟨by unfold hop; rw [if_pos (show 2 * a.val + 1 < 14 by omega), if_neg (show ¬ (2 * a.val + 1) % 2 = 0 by omega)], congrArg tens (Fin.ext (show (2 * a.val + 1) % 14 / 2 = a.val by omega))⟩
  have hop3 : hop ⟨14 + 2 * a.val, by omega⟩ = .r2 ∧ tn ⟨14 + 2 * a.val, by omega⟩ = tens a :=
    ⟨by unfold hop; rw [if_neg (show ¬ 14 + 2 * a.val < 14 by omega), if_pos (show (14 + 2 * a.val) % 2 = 0 by omega)], congrArg tens (Fin.ext (show (14 + 2 * a.val) % 14 / 2 = a.val by omega))⟩
  have hop4 : hop ⟨14 + 2 * a.val + 1, by omega⟩ = .l2 ∧ tn ⟨14 + 2 * a.val + 1, by omega⟩ = tens a :=
    ⟨by unfold hop; rw [if_neg (show ¬ 14 + 2 * a.val + 1 < 14 by omega), if_neg (show ¬ (14 + 2 * a.val + 1) % 2 = 0 by omega)], congrArg tens (Fin.ext (show (14 + 2 * a.val + 1) % 14 / 2 = a.val by omega))⟩
  have hkept := pick4 (Finset.univ.filter fun j : Fin 28 => 0 ≤ j.val ∧ j.val < r) (fun j : Fin 28 => iprop(semVal (recvCell c j) 0 ∗ keptP m (hop j) (tn j) c))
    ⟨2 * a.val, by omega⟩ ⟨2 * a.val + 1, by omega⟩ ⟨14 + 2 * a.val, by omega⟩ ⟨14 + 2 * a.val + 1, by omega⟩
    (Finset.mem_filter.mpr ⟨Finset.mem_univ _, Nat.zero_le _, show 2 * a.val < r by omega⟩)
    (Finset.mem_filter.mpr ⟨Finset.mem_univ _, Nat.zero_le _, show 2 * a.val + 1 < r by omega⟩)
    (Finset.mem_filter.mpr ⟨Finset.mem_univ _, Nat.zero_le _, show 14 + 2 * a.val < r by omega⟩)
    (Finset.mem_filter.mpr ⟨Finset.mem_univ _, Nat.zero_le _, show 14 + 2 * a.val + 1 < r by omega⟩)
    (by rw [ne_eq, Fin.mk.injEq]; omega) (by rw [ne_eq, Fin.mk.injEq]; omega) (by rw [ne_eq, Fin.mk.injEq]; omega)
    (by rw [ne_eq, Fin.mk.injEq]; omega) (by rw [ne_eq, Fin.mk.injEq]; omega) (by rw [ne_eq, Fin.mk.injEq]; omega)
  rw [hop1.1, hop1.2, hop2.1, hop2.2, hop3.1, hop3.2, hop4.1, hop4.2] at hkept
  have hown : (seg 0 7 fun a : Fin 7 => cPts m (tens a) 0 c fullShare.left : sProp 𝕄) = _ := pick1 _ _ a (Finset.mem_filter.mpr ⟨Finset.mem_univ a, Nat.zero_le _, a.isLt⟩)
  have hk1 : (keptP m .r1 (tens a) c : sProp 𝕄) = iprop(cPts m (tens a) 3 c fullShare.left ∗ hPts m (tens a) 3 1 c fullShare.right) := rfl
  have hk2 : (keptP m .l1 (tens a) c : sProp 𝕄) = iprop(cPts m (tens a) 1 c fullShare.left ∗ hPts m (tens a) 1 0 c fullShare.right) := rfl
  have hk3 : (keptP m .r2 (tens a) c : sProp 𝕄) = iprop(hPts m (tens a) 2 0 c fullShare.left ∗ hPts m (tens a) 2 0 c fullShare.right) := hPts_share m (tens a) 2 0 c fullShare
  have hk4 : (keptP m .l2 (tens a) c : sProp 𝕄) = iprop(hPts m (tens a) 2 1 c fullShare.left ∗ hPts m (tens a) 2 1 c fullShare.right) := hPts_share m (tens a) 2 1 c fullShare
  rw [hk1, hk2, hk3, hk4] at hkept
  have hrcv : (Rcv m c r : sProp 𝕄) = iprop((seg r 28 fun j : Fin 28 => iprop(cred (tallyAt (recvCell c j) () (Nx j)) ∗ atPos ER (recvCell c j) 0 ∅ 0)) ∗ _) :=
    congrArg (fun P => iprop((seg r 28 fun j : Fin 28 => iprop(cred (tallyAt (recvCell c j) () (Nx j)) ∗ atPos ER (recvCell c j) 0 ∅ 0)) ∗ P)) hkept
  rw [tPts_eq]
  unfold World Cps
  rw [hrcv, hown]
  iintro ⟨HR, HB, Hsnd, Hlend, ⟨Hrt, ⟨Hz1, H3, H31⟩, ⟨Hz2, H1, H10⟩, ⟨Hz3, H20, H20r⟩, ⟨Hz4, H21, H21r⟩, Hkr⟩, ⟨Htodo, Hcr, Hat, Hdone, Hblank, H0, Hown⟩, Hout⟩
  isplitl [H0 H1 H20 H21 H3]
  · isplitl [H0]; · iexact H0
    isplitl [H1]; · iexact H1
    isplitr [H3]
    · isplitl [H20] <;> iassumption
    iexact H3
  iintro ⟨H0, H1, ⟨H20, H21⟩, H3⟩
  isplitl [HR]; · iexact HR
  isplitl [HB]; · iexact HB
  isplitl [Hsnd]; · iexact Hsnd
  isplitl [Hlend]; · iexact Hlend
  isplitl [Hrt Hz1 H3 H31 Hz2 H1 H10 Hz3 H20 H20r Hz4 H21 H21r Hkr]
  · isplitl [Hrt]; · iexact Hrt
    isplitl [Hz1 H3 H31]
    · isplitl [Hz1]; · iexact Hz1
      isplitl [H3] <;> iassumption
    isplitl [Hz2 H1 H10]
    · isplitl [Hz2]; · iexact Hz2
      isplitl [H1] <;> iassumption
    isplitl [Hz3 H20 H20r]
    · isplitl [Hz3]; · iexact Hz3
      isplitl [H20] <;> iassumption
    isplitl [Hz4 H21 H21r]
    · isplitl [Hz4]; · iexact Hz4
      isplitl [H21] <;> iassumption
    iexact Hkr
  isplitr [Hout]
  · isplitl [Htodo]; · iexact Htodo
    isplitl [Hcr]; · iexact Hcr
    isplitl [Hat]; · iexact Hat
    isplitl [Hdone]; · iexact Hdone
    isplitl [Hblank]; · iexact Hblank
    isplitl [H0] <;> iassumption
  iexact Hout

/-! ## The loads -/

/-- Layer `l` of the gathered `Win`, of the gathered `Wout`. -/
def lWi (l : Fin 3) (c : Dev nD) : S1x128x1024.Idx → Elt F .bf16 := fun i => gWi m c (ix3 (n0 := 3) l (i 1) (i 2))
def lWo (l : Fin 3) (c : Dev nD) : S1x1024x128.Idx → Elt F .bf16 := fun i => gWo m c (ix3 (n0 := 3) l (i 1) (i 2))

theorem inbLi (l : Fin 3) : ∀ a, (![l.val, 0, 0] : Fin 3 → Nat) a + S1x128x1024.size a ≤ S3x128x1024.size a := by
  revert l; decide
theorem inbLo (l : Fin 3) : ∀ a, (![l.val, 0, 0] : Fin 3 → Nat) a + S1x1024x128.size a ≤ S3x1024x128.size a := by
  revert l; decide

/-- A load of a rectangle within a set held, the set being lent for it. -/
theorem load_ops {α : Type} {Q : α → sProp 𝕄} {s₂ : Shape} (N : Memref sig .tc .vmem s₂ .bf16) (rC : Rect s₂) {hl : N.view.LoadsAt rC.toLoadRect}
    (S : Finset (Idx (N.view.loc (c : Thread nD τ)))) (g : Buf (Elt F) (N.view.loc (c : Thread nD τ))) {q : PosShare TreeShare} {W P : sProp 𝕄} (hP : P = (N.view.loc (c : Thread nD τ) ↦[S]{q} g))
    {k : (rC.shape.Idx → Elt F .bf16) → Prog (TpuEff nD τ sig (Elt F) Λ₀ .tc) α}
    (hS : (N.access rC).set ⊆ S) (v : rC.shape.Idx → Elt F .bf16) (hv : (N.access rC).read (Elt F) g = v) (hk : W ⊢ Wp c (k v) Q) :
    iprop(P ∗ (P -∗ W)) ⊢ Wp c (.op (.load N rC.toLoadRect hl) k) Q := by
  subst hP hv
  iintro ⟨Hp, Hw⟩
  iapply (wp_load_rect 𝒱₀ (c : Thread nD τ) none Set.univ (m := N) (r := rC) hS) $$ Hp
  iintro Hp
  ihave H := Hw $$ Hp
  iapply hk $$ H

theorem load_x {α : Type} {Q : α → sProp 𝕄} (hr : 15 < r) {hl} {k : (S512x128.Idx → Elt F .bf16) → Prog (TpuEff nD τ sig (Elt F) Λ₀ .tc) α}
    (hk : World m K c p s w v r n d 7 f ⊢ Wp c (k (gX m c)) Q) :
    World m K c p s w v r n d 7 f
      ⊢ Wp c (.op (.load (Memref.whole cc0_scratch3 : Memref sig .tc .vmem S512x128 .bf16) (Rect.unit (s := S512x128) ![0, 0] S512x128.size inb_S512x128_S512x128_0_0).toLoadRect hl) k) Q := by
  refine (lend_array m K c (0 : Fin 7) .x rfl hr).trans ?_
  have hS : ((Memref.whole cc0_scratch3 : Memref sig .tc .vmem S512x128 .bf16).access (Rect.unit (s := S512x128) ![0, 0] S512x128.size inb_S512x128_S512x128_0_0)).set ⊆ tSet .x :=
    fun i _ => (mem_tSet .x i).mpr rfl
  have hv : ((Memref.whole cc0_scratch3 : Memref sig .tc .vmem S512x128 .bf16).access (Rect.unit (s := S512x128) ![0, 0] S512x128.size inb_S512x128_S512x128_0_0)).read (Elt F) (gX m c) = gX m c :=
    Memref.readAt_unit_zero (Elt F) cc0_scratch3 hz2 _ (gX m c)
  exact load_ops c (Memref.whole cc0_scratch3 : Memref sig .tc .vmem S512x128 .bf16) (Rect.unit (s := S512x128) ![0, 0] S512x128.size inb_S512x128_S512x128_0_0) (tSet .x) (gX m c) rfl hS (gX m c) hv hk

theorem load_wi {α : Type} {Q : α → sProp 𝕄} (l : Fin 3) (a : Fin 7) (ht : tens a = .wi l) (hr : 14 + 2 * a.val + 1 < r) {hl} {k : (S1x128x1024.Idx → Elt F .bf16) → Prog (TpuEff nD τ sig (Elt F) Λ₀ .tc) α}
    (hk : World m K c p s w v r n d 7 f ⊢ Wp c (k (lWi m l c)) Q) :
    World m K c p s w v r n d 7 f
      ⊢ Wp c (.op (.load (Memref.whole cc0_scratch4 : Memref sig .tc .vmem S3x128x1024 .bf16) (Rect.unit (s := S3x128x1024) ![l.val, 0, 0] S1x128x1024.size (inbLi l)).toLoadRect hl) k) Q := by
  refine (lend_array m K c a (.wi l) ht hr).trans ?_
  have he : ∀ y : S1x128x1024.Idx, (Rect.unit (s := S3x128x1024) ![l.val, 0, 0] S1x128x1024.size (inbLi l)).emb y = ix3 (n0 := 3) l (y 1) (y 2) := fun y => by
    have h0 : (y 0).val = 0 := by have : (y 0).val < 1 := (y 0).isLt; omega
    funext a; fin_cases a
    · exact Fin.ext ((ValueKit.rect_emb_unit_val _ _ _ _ _).trans (congrArg (l.val + ·) h0))
    · exact Fin.ext ((ValueKit.rect_emb_unit_val _ _ _ _ _).trans (Nat.zero_add _))
    · exact Fin.ext ((ValueKit.rect_emb_unit_val _ _ _ _ _).trans (Nat.zero_add _))
  have hS : ((Memref.whole cc0_scratch4 : Memref sig .tc .vmem S3x128x1024 .bf16).access (Rect.unit (s := S3x128x1024) ![l.val, 0, 0] S1x128x1024.size (inbLi l))).set ⊆ tSet (.wi l) := fun i hi => by
    rw [View.set_slice_whole cc0_scratch4, ← Rect.map_emb_univ] at hi
    obtain ⟨y, -, hy⟩ := Finset.mem_map.mp hi
    exact (mem_tSet (.wi l) i).mpr (by rw [← hy]; exact congrArg (fun z : S3x128x1024.Idx => (z 0).val) (he y))
  have hv : ((Memref.whole cc0_scratch4 : Memref sig .tc .vmem S3x128x1024 .bf16).access (Rect.unit (s := S3x128x1024) ![l.val, 0, 0] S1x128x1024.size (inbLi l))).read (Elt F) (gWi m c) = lWi m l c :=
    funext fun y => congrArg (gWi m c) (he y)
  exact load_ops c (Memref.whole cc0_scratch4 : Memref sig .tc .vmem S3x128x1024 .bf16) (Rect.unit (s := S3x128x1024) ![l.val, 0, 0] S1x128x1024.size (inbLi l)) (tSet (.wi l)) (gWi m c) rfl hS (lWi m l c) hv hk

theorem load_wo {α : Type} {Q : α → sProp 𝕄} (l : Fin 3) (a : Fin 7) (ht : tens a = .wo l) (hr : 14 + 2 * a.val + 1 < r) {hl} {k : (S1x1024x128.Idx → Elt F .bf16) → Prog (TpuEff nD τ sig (Elt F) Λ₀ .tc) α}
    (hk : World m K c p s w v r n d 7 f ⊢ Wp c (k (lWo m l c)) Q) :
    World m K c p s w v r n d 7 f
      ⊢ Wp c (.op (.load (Memref.whole cc0_scratch5 : Memref sig .tc .vmem S3x1024x128 .bf16) (Rect.unit (s := S3x1024x128) ![l.val, 0, 0] S1x1024x128.size (inbLo l)).toLoadRect hl) k) Q := by
  refine (lend_array m K c a (.wo l) ht hr).trans ?_
  have he : ∀ y : S1x1024x128.Idx, (Rect.unit (s := S3x1024x128) ![l.val, 0, 0] S1x1024x128.size (inbLo l)).emb y = ix3 (n0 := 3) l (y 1) (y 2) := fun y => by
    have h0 : (y 0).val = 0 := by have : (y 0).val < 1 := (y 0).isLt; omega
    funext a; fin_cases a
    · exact Fin.ext ((ValueKit.rect_emb_unit_val _ _ _ _ _).trans (congrArg (l.val + ·) h0))
    · exact Fin.ext ((ValueKit.rect_emb_unit_val _ _ _ _ _).trans (Nat.zero_add _))
    · exact Fin.ext ((ValueKit.rect_emb_unit_val _ _ _ _ _).trans (Nat.zero_add _))
  have hS : ((Memref.whole cc0_scratch5 : Memref sig .tc .vmem S3x1024x128 .bf16).access (Rect.unit (s := S3x1024x128) ![l.val, 0, 0] S1x1024x128.size (inbLo l))).set ⊆ tSet (.wo l) := fun i hi => by
    rw [View.set_slice_whole cc0_scratch5, ← Rect.map_emb_univ] at hi
    obtain ⟨y, -, hy⟩ := Finset.mem_map.mp hi
    exact (mem_tSet (.wo l) i).mpr (by rw [← hy]; exact congrArg (fun z : S3x1024x128.Idx => (z 0).val) (he y))
  have hv : ((Memref.whole cc0_scratch5 : Memref sig .tc .vmem S3x1024x128 .bf16).access (Rect.unit (s := S3x1024x128) ![l.val, 0, 0] S1x1024x128.size (inbLo l))).read (Elt F) (gWo m c) = lWo m l c :=
    funext fun y => congrArg (gWo m c) (he y)
  exact load_ops c (Memref.whole cc0_scratch5 : Memref sig .tc .vmem S3x1024x128 .bf16) (Rect.unit (s := S3x1024x128) ![l.val, 0, 0] S1x1024x128.size (inbLo l)) (tSet (.wo l)) (gWo m c) rfl hS (lWo m l c) hv hk

/-! ## The result's row blocks -/

/-- A load of a row block whose value is not used, and the store of `val` there. -/
theorem put_out {α : Type} {Q : α → sProp 𝕄} (off : Fin 2 → ℕ) (hoff : ∀ a, off a + S128x128.size a ≤ S512x128.size a) (val : S128x128.Idx → Elt F .bf16)
    {hl hx hm} {k : PUnit → Prog (TpuEff nD τ sig (Elt F) Λ₀ .tc) α}
    (hk : World m K c p s w v r n d b (((Memref.whole cc0_stg0_0 : Memref sig .tc .vmem S512x128 .bf16).access (Rect.unit (s := S512x128) off S128x128.size hoff)).write (Elt F) f val Finset.univ) ⊢ Wp c (k ⟨⟩) Q) :
    World m K c p s w v r n d b f
      ⊢ Wp c (.op (.load (Memref.whole cc0_stg0_0 : Memref sig .tc .vmem S512x128 .bf16) (Rect.unit (s := S512x128) off S128x128.size hoff).toLoadRect hl) fun _ =>
        .op (.store (Memref.whole cc0_stg0_0 : Memref sig .tc .vmem S512x128 .bf16) (Rect.unit (s := S512x128) off S128x128.size hoff) val Finset.univ hx hm) k) Q := by
  unfold World outPts
  iintro ⟨HR, HB, Hsnd, Hlend, Hrcv, Hcps, Hout⟩
  iapply (wp_load_rect 𝒱₀ (c : Thread nD τ) none Set.univ (m := (Memref.whole cc0_stg0_0 : Memref sig .tc .vmem S512x128 .bf16)) (r := Rect.unit (s := S512x128) off S128x128.size hoff) (S := Finset.univ) (Finset.subset_univ _)) $$ Hout
  iintro Hout
  iapply (wp_store 𝒱₀ (c : Thread nD τ) none Set.univ (m := (Memref.whole cc0_stg0_0 : Memref sig .tc .vmem S512x128 .bf16)) (r := Rect.unit (s := S512x128) off S128x128.size hoff) (Mk := Finset.univ) (S := Finset.univ) (Finset.subset_univ _)) $$ Hout
  iintro Hout
  iapply hk
  unfold World outPts
  isplitl [HR]; · iexact HR
  isplitl [HB]; · iexact HB
  isplitl [Hsnd]; · iexact Hsnd
  isplitl [Hlend]; · iexact Hlend
  isplitl [Hrcv]; · iexact Hrcv
  isplitl [Hcps] <;> iassumption

end Cert.Gather

end
-- ==== Proof.Body1.lean ====
/-
The body's opening: the two signals, the copies started, the barrier, the first chunk.
-/
module

public import proofs.«01_k».proof.Proof.Loads

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

/-- A printed piece of the body at the launch's own buffers and semaphores. -/
abbrev onBufs {β : Type 1} (g : (arg0 : Memref sig .tc .hbm S128x128 .f32) → (harg0 : arg0.IsWhole) → (arg1 : Memref sig .tc .hbm S128x256 .f32) → (harg1 : arg1.IsWhole) → (arg2 : Memref sig .tc .hbm S256x128 .f32) → (harg2 : arg2.IsWhole) → (arg3 : Memref sig .tc .hbm S128x256 .f32) → (harg3 : arg3.IsWhole) → (arg4 : Memref sig .tc .hbm S256x128 .f32) → (harg4 : arg4.IsWhole) → (arg5 : Memref sig .tc .hbm S128x256 .f32) → (harg5 : arg5.IsWhole) → (arg6 : Memref sig .tc .hbm S256x128 .f32) → (harg6 : arg6.IsWhole) → (arg7 : Memref sig .tc .vmem S512x128 .bf16) → (harg7 : arg7.IsWhole) → (arg8 : Memref sig .tc .vmem S128x128 .f32) → (harg8 : arg8.IsWhole) → (arg9 : Memref sig .tc .vmem S3x128x256 .f32) → (harg9 : arg9.IsWhole) → (arg10 : Memref sig .tc .vmem S3x256x128 .f32) → (harg10 : arg10.IsWhole) → (arg11 : Memref sig .tc .vmem S512x128 .bf16) → (harg11 : arg11.IsWhole) → (arg12 : Memref sig .tc .vmem S3x128x1024 .bf16) → (harg12 : arg12.IsWhole) → (arg13 : Memref sig .tc .vmem S3x1024x128 .bf16) → (harg13 : arg13.IsWhole) → (arg14 : DmaSems sig S7) → (arg15 : DmaSems sig S28) → (arg16 : DmaSems sig S28) → β) : β :=
  g (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8

/-- The end of a piece. -/
theorem step_ret {α : Type} {Q : α → sProp 𝕄} {P : sProp 𝕄} {a : α} (h : P ⊢ Q a) : P ⊢ Wp (F := F) c (.ret a) Q := h.trans fupd_intro

theorem body1 {Q : (Σ' (d0 : Dev nD) (v2 : BitVec 32) (v5 : BitVec 32) (v7 : BitVec 32), Sems sig S_) → sProp 𝕄}
    (hk : ∀ v2 v5 v7, World m K c 2 0 0 0 0 4 0 0 f ⊢ Q ⟨c, v2, v5, v7, SemArray.scalar (sig.barrier 0 rfl)⟩) :
    World m K c 0 0 0 0 0 0 0 0 f ⊢ Wp c (onBufs (k0_part1 (F := F))) Q := by
  unfold onBufs
  rw [k0_part1_eq_skeleton]
  unfold k0_part1_skel
  simp only [semSignalWord, semWaitWord, Prog.lift, Prog.bind_op, Prog.bind_ret, Prog.pure_eq_ret, wp_deviceId]
  refine step_signal1 m K c _ ?_ rfl ?_
  · exact Fin.ext (k0_dev1_eq c)
  refine step_signal2 m K c _ ?_ rfl ?_
  · exact Fin.ext (k0_dev2_eq c)
  refine step_copy m K c 0 .x rfl rfl (Nat.zero_le _) ?_
  refine step_copy m K c 1 (.wi 0) rfl rfl (Nat.zero_le _) ?_
  refine step_copy m K c 2 (.wo 0) rfl rfl (Nat.zero_le _) ?_
  refine step_copy m K c 3 (.wi 1) rfl rfl (Nat.zero_le _) ?_
  exact step_ret c (hk _ _ _)

theorem body2 {Q : PUnit → sProp 𝕄} (v7 : BitVec 32) (hk : World m K c 3 0 0 2 0 7 1 1 f ⊢ Q ⟨⟩) :
    World m K c 2 0 0 0 0 4 0 0 f ⊢ Wp c (onBufs (k0_part2 (F := F)) v7 (SemArray.scalar (sig.barrier 0 rfl))) Q := by
  unfold onBufs
  rw [k0_part2_eq_skeleton]
  unfold k0_part2_skel
  simp only [semSignalWord, semWaitWord, Prog.lift, Prog.bind_op, Prog.bind_ret, Prog.pure_eq_ret, wp_deviceId]
  refine step_copy m K c 4 (.wo 1) rfl rfl (Nat.zero_le _) ?_
  refine step_copy m K c 5 (.wi 2) rfl rfl (Nat.zero_le _) ?_
  refine step_copy m K c 6 (.wo 2) rfl rfl (Nat.zero_le _) ?_
  refine step_barrier m K c rfl ?_
  refine step_copywait m K c 0 (by decide) rfl rfl ?_
  refine fill_x m K c (by decide) (Nat.zero_le _) ?_
  exact step_ret c hk

theorem body3 {Q : PUnit → sProp 𝕄} (v5 v7 : BitVec 32) (hk : World m K c 3 2 0 4 0 7 2 2 f ⊢ Q ⟨⟩) :
    World m K c 3 0 0 2 0 7 1 1 f ⊢ Wp c (onBufs (k0_part3 (F := F)) c v5 v7) Q := by
  unfold onBufs
  rw [k0_part3_eq_skeleton]
  unfold k0_part3_skel
  simp only [Prog.lift, Prog.bind_op, Prog.bind_ret, Prog.pure_eq_ret]
  refine step_send m K c 0 .r1 .x rfl rfl _ (Fin.ext (k0_dev3_eq c)) rfl rfl (by decide) (by decide) ?_
  refine step_send m K c 1 .l1 .x rfl rfl _ (Fin.ext (k0_dev4_eq c)) rfl rfl (by decide) (by decide) ?_
  refine step_copywait m K c 1 (by decide) rfl rfl ?_
  refine fill_wi m K c 0 1 rfl (by decide) (by decide) _ rfl ?_
  exact step_ret c hk

end Cert.Gather

end
-- ==== Proof.Body2.lean ====
/-
The body's middle: the chunks stored and sent as their copies land, and the halves sent on.
-/
module

public import proofs.«01_k».proof.Proof.Body1

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

theorem body4 {Q : PUnit → sProp 𝕄} (v5 v7 : BitVec 32) (hk : World m K c 3 4 0 6 0 7 3 3 f ⊢ Q ⟨⟩) :
    World m K c 3 2 0 4 0 7 2 2 f ⊢ Wp c (onBufs (k0_part4 (F := F)) c v5 v7) Q := by
  unfold onBufs
  rw [k0_part4_eq_skeleton]
  unfold k0_part4_skel
  simp only [Prog.lift, Prog.bind_op, Prog.bind_ret, Prog.pure_eq_ret]
  refine step_send m K c 2 .r1 (.wi 0) rfl rfl _ (Fin.ext (k0_dev5_eq c)) rfl rfl (by decide) (by decide) ?_
  refine step_send m K c 3 .l1 (.wi 0) rfl rfl _ (Fin.ext (k0_dev6_eq c)) rfl rfl (by decide) (by decide) ?_
  refine step_copywait m K c 2 (by decide) rfl rfl ?_
  refine fill_wo m K c 0 2 rfl (by decide) (by decide) _ rfl ?_
  exact step_ret c hk

theorem body5 {Q : PUnit → sProp 𝕄} (v5 v7 : BitVec 32) (hk : World m K c 3 6 0 8 0 7 4 4 f ⊢ Q ⟨⟩) :
    World m K c 3 4 0 6 0 7 3 3 f ⊢ Wp c (onBufs (k0_part5 (F := F)) c v5 v7) Q := by
  unfold onBufs
  rw [k0_part5_eq_skeleton]
  unfold k0_part5_skel
  simp only [Prog.lift, Prog.bind_op, Prog.bind_ret, Prog.pure_eq_ret]
  refine step_send m K c 4 .r1 (.wo 0) rfl rfl _ (Fin.ext (k0_dev7_eq c)) rfl rfl (by decide) (by decide) ?_
  refine step_send m K c 5 .l1 (.wo 0) rfl rfl _ (Fin.ext (k0_dev8_eq c)) rfl rfl (by decide) (by decide) ?_
  refine step_copywait m K c 3 (by decide) rfl rfl ?_
  refine fill_wi m K c 1 3 rfl (by decide) (by decide) _ rfl ?_
  exact step_ret c hk

theorem body6 {Q : PUnit → sProp 𝕄} (v5 v7 : BitVec 32) (hk : World m K c 3 8 0 10 0 7 5 5 f ⊢ Q ⟨⟩) :
    World m K c 3 6 0 8 0 7 4 4 f ⊢ Wp c (onBufs (k0_part6 (F := F)) c v5 v7) Q := by
  unfold onBufs
  rw [k0_part6_eq_skeleton]
  unfold k0_part6_skel
  simp only [Prog.lift, Prog.bind_op, Prog.bind_ret, Prog.pure_eq_ret]
  refine step_send m K c 6 .r1 (.wi 1) rfl rfl _ (Fin.ext (k0_dev9_eq c)) rfl rfl (by decide) (by decide) ?_
  refine step_send m K c 7 .l1 (.wi 1) rfl rfl _ (Fin.ext (k0_dev10_eq c)) rfl rfl (by decide) (by decide) ?_
  refine step_copywait m K c 4 (by decide) rfl rfl ?_
  refine fill_wo m K c 1 4 rfl (by decide) (by decide) _ rfl ?_
  exact step_ret c hk

theorem body7 {Q : PUnit → sProp 𝕄} (v5 : BitVec 32) (hk : World m K c 3 10 0 12 0 7 6 6 f ⊢ Q ⟨⟩) :
    World m K c 3 8 0 10 0 7 5 5 f ⊢ Wp c (onBufs (k0_part7 (F := F)) c v5) Q := by
  unfold onBufs
  rw [k0_part7_eq_skeleton]
  unfold k0_part7_skel
  simp only [Prog.lift, Prog.bind_op, Prog.bind_ret, Prog.pure_eq_ret]
  refine step_send m K c 8 .r1 (.wo 1) rfl rfl _ (Fin.ext (k0_dev11_eq c)) rfl rfl (by decide) (by decide) ?_
  refine step_send m K c 9 .l1 (.wo 1) rfl rfl _ (Fin.ext (k0_dev12_eq c)) rfl rfl (by decide) (by decide) ?_
  refine step_copywait m K c 5 (by decide) rfl rfl ?_
  refine fill_wi m K c 2 5 rfl (by decide) (by decide) _ rfl ?_
  exact step_ret c hk

theorem body8 {Q : PUnit → sProp 𝕄} (v5 v7 : BitVec 32) (hk : World m K c 3 12 0 14 0 7 7 7 f ⊢ Q ⟨⟩) :
    World m K c 3 10 0 12 0 7 6 6 f ⊢ Wp c (onBufs (k0_part8 (F := F)) c v5 v7) Q := by
  unfold onBufs
  rw [k0_part8_eq_skeleton]
  unfold k0_part8_skel
  simp only [Prog.lift, Prog.bind_op, Prog.bind_ret, Prog.pure_eq_ret]
  refine step_send m K c 10 .r1 (.wi 2) rfl rfl _ (Fin.ext (k0_dev13_eq c)) rfl rfl (by decide) (by decide) ?_
  refine step_send m K c 11 .l1 (.wi 2) rfl rfl _ (Fin.ext (k0_dev14_eq c)) rfl rfl (by decide) (by decide) ?_
  refine step_copywait m K c 6 (by decide) rfl rfl ?_
  refine fill_wo m K c 2 6 rfl (by decide) (by decide) _ rfl ?_
  exact step_ret c hk

theorem body9 {Q : BitVec 32 → sProp 𝕄} (v5 v7 : BitVec 32) (hk : World m K c 3 14 0 15 1 7 7 7 f ⊢ Q 1#32) :
    World m K c 3 12 0 14 0 7 7 7 f ⊢ Wp c (onBufs (k0_part9 (F := F)) c v5 v7) Q := by
  unfold onBufs
  rw [k0_part9_eq_skeleton]
  unfold k0_part9_skel
  simp only [Prog.lift, Prog.bind_op, Prog.bind_ret, Prog.pure_eq_ret]
  refine step_send m K c 12 .r1 (.wo 2) rfl rfl _ (Fin.ext (k0_dev15_eq c)) rfl rfl (by decide) (by decide) ?_
  refine step_send m K c 13 .l1 (.wo 2) rfl rfl _ (Fin.ext (k0_dev16_eq c)) rfl rfl (by decide) (by decide) ?_
  refine step_recv1 m K c 0 (by decide) (by decide) (by decide) rfl rfl ?_
  exact step_ret c hk

theorem body10 {Q : PUnit → sProp 𝕄} (v5 v7 x : BitVec 32) (hk : World m K c 3 16 0 16 2 7 7 7 f ⊢ Q ⟨⟩) :
    World m K c 3 14 0 15 1 7 7 7 f ⊢ Wp c (onBufs (k0_part10 (F := F)) c v5 v7 x) Q := by
  unfold onBufs
  rw [k0_part10_eq_skeleton]
  unfold k0_part10_skel
  simp only [Prog.lift, Prog.bind_op, Prog.bind_ret, Prog.pure_eq_ret]
  refine step_send m K c 14 .r2 .x rfl rfl _ (Fin.ext (k0_dev17_eq c)) rfl rfl (by decide) (by decide) ?_
  refine step_recv1 m K c 1 (by decide) (by decide) (by decide) rfl rfl ?_
  refine step_send m K c 15 .l2 .x rfl rfl _ (Fin.ext (k0_dev18_eq c)) rfl rfl (by decide) (by decide) ?_
  exact step_ret c hk

theorem body11 {Q : PUnit → sProp 𝕄} (v5 v7 : BitVec 32) (hk : World m K c 3 17 0 18 4 7 7 7 f ⊢ Q ⟨⟩) :
    World m K c 3 16 0 16 2 7 7 7 f ⊢ Wp c (onBufs (k0_part11 (F := F)) c v5 v7) Q := by
  unfold onBufs
  rw [k0_part11_eq_skeleton]
  unfold k0_part11_skel
  simp only [Prog.lift, Prog.bind_op, Prog.bind_ret, Prog.pure_eq_ret]
  refine step_recv1 m K c 2 (by decide) (by decide) (by decide) rfl rfl ?_
  refine step_send m K c 16 .r2 (.wi 0) rfl rfl _ (Fin.ext (k0_dev19_eq c)) rfl rfl (by decide) (by decide) ?_
  refine step_recv1 m K c 3 (by decide) (by decide) (by decide) rfl rfl ?_
  exact step_ret c hk

theorem body12 {Q : PUnit → sProp 𝕄} (v5 v7 : BitVec 32) (hk : World m K c 3 19 0 19 5 7 7 7 f ⊢ Q ⟨⟩) :
    World m K c 3 17 0 18 4 7 7 7 f ⊢ Wp c (onBufs (k0_part12 (F := F)) c v5 v7) Q := by
  unfold onBufs
  rw [k0_part12_eq_skeleton]
  unfold k0_part12_skel
  simp only [Prog.lift, Prog.bind_op, Prog.bind_ret, Prog.pure_eq_ret]
  refine step_send m K c 17 .l2 (.wi 0) rfl rfl _ (Fin.ext (k0_dev20_eq c)) rfl rfl (by decide) (by decide) ?_
  refine step_recv1 m K c 4 (by decide) (by decide) (by decide) rfl rfl ?_
  refine step_send m K c 18 .r2 (.wo 0) rfl rfl _ (Fin.ext (k0_dev21_eq c)) rfl rfl (by decide) (by decide) ?_
  exact step_ret c hk

theorem body13 {Q : PUnit → sProp 𝕄} (v5 v7 : BitVec 32) (hk : World m K c 3 20 0 21 7 7 7 7 f ⊢ Q ⟨⟩) :
    World m K c 3 19 0 19 5 7 7 7 f ⊢ Wp c (onBufs (k0_part13 (F := F)) c v5 v7) Q := by
  unfold onBufs
  rw [k0_part13_eq_skeleton]
  unfold k0_part13_skel
  simp only [Prog.lift, Prog.bind_op, Prog.bind_ret, Prog.pure_eq_ret]
  refine step_recv1 m K c 5 (by decide) (by decide) (by decide) rfl rfl ?_
  refine step_send m K c 19 .l2 (.wo 0) rfl rfl _ (Fin.ext (k0_dev22_eq c)) rfl rfl (by decide) (by decide) ?_
  refine step_recv1 m K c 6 (by decide) (by decide) (by decide) rfl rfl ?_
  exact step_ret c hk

theorem body14 {Q : PUnit → sProp 𝕄} (v5 : BitVec 32) (hk : World m K c 3 22 0 22 8 7 7 7 f ⊢ Q ⟨⟩) :
    World m K c 3 20 0 21 7 7 7 7 f ⊢ Wp c (onBufs (k0_part14 (F := F)) c v5) Q := by
  unfold onBufs
  rw [k0_part14_eq_skeleton]
  unfold k0_part14_skel
  simp only [Prog.lift, Prog.bind_op, Prog.bind_ret, Prog.pure_eq_ret]
  refine step_send m K c 20 .r2 (.wi 1) rfl rfl _ (Fin.ext (k0_dev23_eq c)) rfl rfl (by decide) (by decide) ?_
  refine step_recv1 m K c 7 (by decide) (by decide) (by decide) rfl rfl ?_
  refine step_send m K c 21 .l2 (.wi 1) rfl rfl _ (Fin.ext (k0_dev24_eq c)) rfl rfl (by decide) (by decide) ?_
  exact step_ret c hk

theorem body15 {Q : PUnit → sProp 𝕄} (v5 v7 : BitVec 32) (hk : World m K c 3 23 0 24 10 7 7 7 f ⊢ Q ⟨⟩) :
    World m K c 3 22 0 22 8 7 7 7 f ⊢ Wp c (onBufs (k0_part15 (F := F)) c v5 v7) Q := by
  unfold onBufs
  rw [k0_part15_eq_skeleton]
  unfold k0_part15_skel
  simp only [Prog.lift, Prog.bind_op, Prog.bind_ret, Prog.pure_eq_ret]
  refine step_recv1 m K c 8 (by decide) (by decide) (by decide) rfl rfl ?_
  refine step_send m K c 22 .r2 (.wo 1) rfl rfl _ (Fin.ext (k0_dev25_eq c)) rfl rfl (by decide) (by decide) ?_
  refine step_recv1 m K c 9 (by decide) (by decide) (by decide) rfl rfl ?_
  exact step_ret c hk

theorem body16 {Q : PUnit → sProp 𝕄} (v5 v7 : BitVec 32) (hk : World m K c 3 25 0 25 11 7 7 7 f ⊢ Q ⟨⟩) :
    World m K c 3 23 0 24 10 7 7 7 f ⊢ Wp c (onBufs (k0_part16 (F := F)) c v5 v7) Q := by
  unfold onBufs
  rw [k0_part16_eq_skeleton]
  unfold k0_part16_skel
  simp only [Prog.lift, Prog.bind_op, Prog.bind_ret, Prog.pure_eq_ret]
  refine step_send m K c 23 .l2 (.wo 1) rfl rfl _ (Fin.ext (k0_dev26_eq c)) rfl rfl (by decide) (by decide) ?_
  refine step_recv1 m K c 10 (by decide) (by decide) (by decide) rfl rfl ?_
  refine step_send m K c 24 .r2 (.wi 2) rfl rfl _ (Fin.ext (k0_dev27_eq c)) rfl rfl (by decide) (by decide) ?_
  exact step_ret c hk

theorem body17 {Q : PUnit → sProp 𝕄} (v5 v7 : BitVec 32) (hk : World m K c 3 26 0 27 13 7 7 7 f ⊢ Q ⟨⟩) :
    World m K c 3 25 0 25 11 7 7 7 f ⊢ Wp c (onBufs (k0_part17 (F := F)) c v5 v7) Q := by
  unfold onBufs
  rw [k0_part17_eq_skeleton]
  unfold k0_part17_skel
  simp only [Prog.lift, Prog.bind_op, Prog.bind_ret, Prog.pure_eq_ret]
  refine step_recv1 m K c 11 (by decide) (by decide) (by decide) rfl rfl ?_
  refine step_send m K c 25 .l2 (.wi 2) rfl rfl _ (Fin.ext (k0_dev28_eq c)) rfl rfl (by decide) (by decide) ?_
  refine step_recv1 m K c 12 (by decide) (by decide) (by decide) rfl rfl ?_
  exact step_ret c hk

theorem body18 {Q : PUnit → sProp 𝕄} (v5 : BitVec 32) (hk : World m K c 3 28 0 28 14 7 7 7 f ⊢ Q ⟨⟩) :
    World m K c 3 26 0 27 13 7 7 7 f ⊢ Wp c (onBufs (k0_part18 (F := F)) c v5) Q := by
  unfold onBufs
  rw [k0_part18_eq_skeleton]
  unfold k0_part18_skel
  simp only [Prog.lift, Prog.bind_op, Prog.bind_ret, Prog.pure_eq_ret]
  refine step_send m K c 26 .r2 (.wo 2) rfl rfl _ (Fin.ext (k0_dev29_eq c)) rfl rfl (by decide) (by decide) ?_
  refine step_recv1 m K c 13 (by decide) (by decide) (by decide) rfl rfl ?_
  refine step_send m K c 27 .l2 (.wo 2) rfl rfl _ (Fin.ext (k0_dev30_eq c)) rfl rfl (by decide) (by decide) ?_
  exact step_ret c hk

end Cert.Gather

end
-- ==== Proof.Body3.lean ====
/-
The body's end: the last halves, the three layers, the result stored, and the waits for what was sent.
-/
module

public import proofs.«01_k».proof.Proof.Body2

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

/-- The result's staging buffer after the four row blocks are stored, each at its own device's rows. -/
def putAll (h : FVec F S512x1024 .bf16) (u : Vec F S1x1024x128 .bf16) (c : Dev nD) (f : S512x128.Idx → Elt F .bf16) : S512x128.Idx → Elt F .bf16 :=
  let M : Memref sig .tc .vmem S512x128 .bf16 := Memref.whole cc0_stg0_0
  let f0 := (M.access (Rect.unit (s := S512x128) (k0_off1 c 0#32) S128x128.size (k0_off1_inb c 0))).write (Elt F) f (k0_pay12 h u) Finset.univ
  let f1 := (M.access (Rect.unit (s := S512x128) (k0_off1 c 1#32) S128x128.size (k0_off1_inb c 1))).write (Elt F) f0 (k0_pay13 h u) Finset.univ
  let f2 := (M.access (Rect.unit (s := S512x128) (k0_off1 c 2#32) S128x128.size (k0_off1_inb c 2))).write (Elt F) f1 (k0_pay14 h u) Finset.univ
  (M.access (Rect.unit (s := S512x128) (k0_off1 c 3#32) S128x128.size (k0_off1_inb c 3))).write (Elt F) f2 (k0_pay15 h u) Finset.univ

theorem body19 {Q : (S512x128.Idx → Elt F .bf16) → sProp 𝕄} (v5 : BitVec 32) (hk : World m K c 3 28 0 28 18 7 7 7 f ⊢ Q (gX m c)) :
    World m K c 3 28 0 28 14 7 7 7 f ⊢ Wp c (onBufs (k0_part19 (F := F)) v5) Q := by
  unfold onBufs
  rw [k0_part19_eq_skeleton]
  unfold k0_part19_skel
  simp only [Prog.lift, Prog.bind_op, Prog.bind_ret, Prog.pure_eq_ret]
  refine step_recv2 m K c 14 (by decide) rfl (by rfl) ?_
  refine step_recv2 m K c 15 (by decide) rfl (by rfl) ?_
  refine load_x m K c (by decide) ?_
  refine step_recv2 m K c 16 (by decide) rfl (by rfl) ?_
  refine step_recv2 m K c 17 (by decide) rfl (by rfl) ?_
  exact step_ret c hk

theorem body20 {Q : (Σ' (v540 : FVec F S512x128 .bf16), BitVec 32) → sProp 𝕄} (v5 : BitVec 32) (v498 : Vec F S512x128 .bf16) (hk : ∀ v541, World m K c 3 28 0 28 20 7 7 7 f ⊢ Q ⟨k0_pay8 v498 (lWi m 0 c) (lWo m 0 c), v541⟩) :
    World m K c 3 28 0 28 18 7 7 7 f ⊢ Wp c (onBufs (k0_part20 (F := F)) v5 v498) Q := by
  unfold onBufs
  rw [k0_part20_eq_skeleton]
  unfold k0_part20_skel
  simp only [Prog.lift, Prog.bind_op, Prog.bind_ret, Prog.pure_eq_ret]
  refine step_recv2 m K c 18 (by decide) rfl (by rfl) ?_
  refine step_recv2 m K c 19 (by decide) rfl (by rfl) ?_
  refine load_wi m K c 0 1 rfl (by decide) ?_
  refine load_wo m K c 0 2 rfl (by decide) ?_
  exact step_ret c (hk _)

theorem body21 {Q : PUnit → sProp 𝕄} (v5 v541 : BitVec 32) (hk : World m K c 3 28 0 28 23 7 7 7 f ⊢ Q ⟨⟩) :
    World m K c 3 28 0 28 20 7 7 7 f ⊢ Wp c (onBufs (k0_part21 (F := F)) v5 v541) Q := by
  unfold onBufs
  rw [k0_part21_eq_skeleton]
  unfold k0_part21_skel
  simp only [Prog.lift, Prog.bind_op, Prog.bind_ret, Prog.pure_eq_ret]
  refine step_recv2 m K c 20 (by decide) rfl (by rfl) ?_
  refine step_recv2 m K c 21 (by decide) rfl (by rfl) ?_
  refine step_recv2 m K c 22 (by decide) rfl (by rfl) ?_
  exact step_ret c hk

theorem body22 {Q : (FVec F S512x128 .bf16) → sProp 𝕄} (v5 : BitVec 32) (v540 : FVec F S512x128 .bf16) (hk : World m K c 3 28 0 28 25 7 7 7 f ⊢ Q (k0_pay9 v540 (lWi m 1 c) (lWo m 1 c))) :
    World m K c 3 28 0 28 23 7 7 7 f ⊢ Wp c (onBufs (k0_part22 (F := F)) v5 v540) Q := by
  unfold onBufs
  rw [k0_part22_eq_skeleton]
  unfold k0_part22_skel
  simp only [Prog.lift, Prog.bind_op, Prog.bind_ret, Prog.pure_eq_ret]
  refine step_recv2 m K c 23 (by decide) rfl (by rfl) ?_
  refine load_wi m K c 1 3 rfl (by decide) ?_
  refine load_wo m K c 1 4 rfl (by decide) ?_
  refine step_recv2 m K c 24 (by decide) rfl (by rfl) ?_
  exact step_ret c hk

theorem body23 {Q : (Σ' (v620 : FVec F S512x1024 .bf16), Vec F S1x1024x128 .bf16) → sProp 𝕄} (v5 : BitVec 32) (v582 : FVec F S512x128 .bf16) (hk : World m K c 3 28 0 28 28 7 7 7 f ⊢ Q ⟨k0_pay10 v582 (lWi m 2 c), lWo m 2 c⟩) :
    World m K c 3 28 0 28 25 7 7 7 f ⊢ Wp c (onBufs (k0_part23 (F := F)) v5 v582) Q := by
  unfold onBufs
  rw [k0_part23_eq_skeleton]
  unfold k0_part23_skel
  simp only [Prog.lift, Prog.bind_op, Prog.bind_ret, Prog.pure_eq_ret]
  refine step_recv2 m K c 25 (by decide) rfl (by rfl) ?_
  refine step_recv2 m K c 26 (by decide) rfl (by rfl) ?_
  refine step_recv2 m K c 27 (by decide) rfl (by rfl) ?_
  refine load_wi m K c 2 5 rfl (by decide) ?_
  refine load_wo m K c 2 6 rfl (by decide) ?_
  exact step_ret c hk

theorem body24 {Q : PUnit → sProp 𝕄} (v2 : BitVec 32) (v620 : FVec F S512x1024 .bf16) (v621 : Vec F S1x1024x128 .bf16) (hk : World m K c 3 28 1 28 28 7 7 7 (putAll v620 v621 c f) ⊢ Q ⟨⟩) :
    World m K c 3 28 0 28 28 7 7 7 f ⊢ Wp c (onBufs (k0_part24 (F := F)) c v2 v620 v621) Q := by
  unfold onBufs
  rw [k0_part24_eq_skeleton]
  unfold k0_part24_skel
  simp only [Prog.lift, Prog.bind_op, Prog.bind_ret, Prog.pure_eq_ret]
  refine put_out m K c _ _ _ ?_
  refine put_out m K c _ _ _ ?_
  refine put_out m K c _ _ _ ?_
  refine put_out m K c _ _ _ ?_
  refine step_sendwait m K c 0 rfl (by rfl) ?_
  exact step_ret c hk

theorem body25 {Q : PUnit → sProp 𝕄} (hk : World m K c 3 28 5 28 28 7 7 7 f ⊢ Q ⟨⟩) :
    World m K c 3 28 1 28 28 7 7 7 f ⊢ Wp c (onBufs (k0_part25 (F := F)) ) Q := by
  unfold onBufs
  rw [k0_part25_eq_skeleton]
  unfold k0_part25_skel
  simp only [Prog.lift, Prog.bind_op, Prog.bind_ret, Prog.pure_eq_ret]
  refine step_sendwait m K c 1 rfl (by rfl) ?_
  refine step_sendwait m K c 2 rfl (by rfl) ?_
  refine step_sendwait m K c 3 rfl (by rfl) ?_
  refine step_sendwait m K c 4 rfl (by rfl) ?_
  exact step_ret c hk

theorem body26 {Q : PUnit → sProp 𝕄} (hk : World m K c 3 28 8 28 28 7 7 7 f ⊢ Q ⟨⟩) :
    World m K c 3 28 5 28 28 7 7 7 f ⊢ Wp c (onBufs (k0_part26 (F := F)) ) Q := by
  unfold onBufs
  rw [k0_part26_eq_skeleton]
  unfold k0_part26_skel
  simp only [Prog.lift, Prog.bind_op, Prog.bind_ret, Prog.pure_eq_ret]
  refine step_sendwait m K c 5 rfl (by rfl) ?_
  refine step_sendwait m K c 6 rfl (by rfl) ?_
  refine step_sendwait m K c 7 rfl (by rfl) ?_
  exact step_ret c hk

theorem body27 {Q : PUnit → sProp 𝕄} (hk : World m K c 3 28 12 28 28 7 7 7 f ⊢ Q ⟨⟩) :
    World m K c 3 28 8 28 28 7 7 7 f ⊢ Wp c (onBufs (k0_part27 (F := F)) ) Q := by
  unfold onBufs
  rw [k0_part27_eq_skeleton]
  unfold k0_part27_skel
  simp only [Prog.lift, Prog.bind_op, Prog.bind_ret, Prog.pure_eq_ret]
  refine step_sendwait m K c 8 rfl (by rfl) ?_
  refine step_sendwait m K c 9 rfl (by rfl) ?_
  refine step_sendwait m K c 10 rfl (by rfl) ?_
  refine step_sendwait m K c 11 rfl (by rfl) ?_
  exact step_ret c hk

theorem body28 {Q : PUnit → sProp 𝕄} (hk : World m K c 3 28 16 28 28 7 7 7 f ⊢ Q ⟨⟩) :
    World m K c 3 28 12 28 28 7 7 7 f ⊢ Wp c (onBufs (k0_part28 (F := F)) ) Q := by
  unfold onBufs
  rw [k0_part28_eq_skeleton]
  unfold k0_part28_skel
  simp only [Prog.lift, Prog.bind_op, Prog.bind_ret, Prog.pure_eq_ret]
  refine step_sendwait m K c 12 rfl (by rfl) ?_
  refine step_sendwait m K c 13 rfl (by rfl) ?_
  refine step_sendwait m K c 14 rfl (by rfl) ?_
  refine step_sendwait m K c 15 rfl (by rfl) ?_
  exact step_ret c hk

theorem body29 {Q : PUnit → sProp 𝕄} (hk : World m K c 3 28 20 28 28 7 7 7 f ⊢ Q ⟨⟩) :
    World m K c 3 28 16 28 28 7 7 7 f ⊢ Wp c (onBufs (k0_part29 (F := F)) ) Q := by
  unfold onBufs
  rw [k0_part29_eq_skeleton]
  unfold k0_part29_skel
  simp only [Prog.lift, Prog.bind_op, Prog.bind_ret, Prog.pure_eq_ret]
  refine step_sendwait m K c 16 rfl (by rfl) ?_
  refine step_sendwait m K c 17 rfl (by rfl) ?_
  refine step_sendwait m K c 18 rfl (by rfl) ?_
  refine step_sendwait m K c 19 rfl (by rfl) ?_
  exact step_ret c hk

theorem body30 {Q : PUnit → sProp 𝕄} (hk : World m K c 3 28 24 28 28 7 7 7 f ⊢ Q ⟨⟩) :
    World m K c 3 28 20 28 28 7 7 7 f ⊢ Wp c (onBufs (k0_part30 (F := F)) ) Q := by
  unfold onBufs
  rw [k0_part30_eq_skeleton]
  unfold k0_part30_skel
  simp only [Prog.lift, Prog.bind_op, Prog.bind_ret, Prog.pure_eq_ret]
  refine step_sendwait m K c 20 rfl (by rfl) ?_
  refine step_sendwait m K c 21 rfl (by rfl) ?_
  refine step_sendwait m K c 22 rfl (by rfl) ?_
  refine step_sendwait m K c 23 rfl (by rfl) ?_
  exact step_ret c hk

theorem body31 {Q : PUnit → sProp 𝕄} (hk : World m K c 3 28 28 28 28 7 7 7 f ⊢ Q ⟨⟩) :
    World m K c 3 28 24 28 28 7 7 7 f ⊢ Wp c (onBufs (k0_part31 (F := F)) ) Q := by
  unfold onBufs
  rw [k0_part31_eq_skeleton]
  unfold k0_part31_skel
  simp only [Prog.lift, Prog.bind_op, Prog.bind_ret, Prog.pure_eq_ret]
  refine step_sendwait m K c 24 rfl (by rfl) ?_
  refine step_sendwait m K c 25 rfl (by rfl) ?_
  refine step_sendwait m K c 26 rfl (by rfl) ?_
  refine step_sendwait m K c 27 rfl (by rfl) ?_
  exact step_ret c hk

end Cert.Gather

end
-- ==== Proof.Body.lean ====
/-
The whole body: from what a device starts with to all it has afterwards.
-/
module

public import proofs.«01_k».proof.Proof.Body3

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)
variable {p s w v r n d b : ℕ} {f : Buf (Elt F) ((c : Thread nD τ).loc cc0_stg0_0)}

/-- What the last layer's first half gives, from the gathered arrays. -/
def hid (c : Dev nD) : FVec F S512x1024 .bf16 :=
  k0_pay10 (k0_pay9 (k0_pay8 (gX m c) (lWi m 0 c) (lWo m 0 c)) (lWi m 1 c) (lWo m 1 c)) (lWi m 2 c)

theorem body_all {Q : PUnit → sProp 𝕄}
    (hk : World m K c 3 28 28 28 28 7 7 7 (putAll (hid m c) (lWo m 2 c) c f) ⊢ Q ⟨⟩) :
    World m K c 0 0 0 0 0 0 0 0 f ⊢ Wp c (onBufs (cc0_body (F := F))) Q := by
  unfold onBufs
  rw [cc0_body_eq_skeleton]
  unfold cc0_body_skel
  simp only [wp_bind, Prog.pure_eq_ret]
  refine body1 m K c fun v2 v5 v7 => ?_
  refine body2 m K c _ ?_
  refine body3 m K c _ _ ?_
  refine body4 m K c _ _ ?_
  refine body5 m K c _ _ ?_
  refine body6 m K c _ _ ?_
  refine body7 m K c _ ?_
  refine body8 m K c _ _ ?_
  refine body9 m K c _ _ ?_
  refine body10 m K c _ _ _ ?_
  refine body11 m K c _ _ ?_
  refine body12 m K c _ _ ?_
  refine body13 m K c _ _ ?_
  refine body14 m K c _ ?_
  refine body15 m K c _ _ ?_
  refine body16 m K c _ _ ?_
  refine body17 m K c _ _ ?_
  refine body18 m K c _ ?_
  refine body19 m K c _ ?_
  refine body20 m K c _ _ fun _ => ?_
  refine body21 m K c _ _ ?_
  refine body22 m K c _ _ ?_
  refine body23 m K c _ _ ?_
  refine body24 m K c _ _ _ ?_
  refine body25 m K c ?_
  refine body26 m K c ?_
  refine body27 m K c ?_
  refine body28 m K c ?_
  refine body29 m K c ?_
  refine body30 m K c ?_
  refine body31 m K c ?_
  exact step_ret c hk

end Cert.Gather

end
-- ==== Proof.Split.lean ====
/-
Taking the scratch buffers and the arguments apart on entering the body, and putting them together again on leaving it.
-/
module

public import proofs.«01_k».proof.Proof.Body

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 64 → ℕ) (c : Dev nD)

/-! ## The transfers by array -/

/-- The four transfers of each of the seven arrays are the 28 transfers. -/
def byArray : Fin 7 × Fin 4 ≃ Fin 28 where
  toFun p := ⟨2 * p.1.val + p.2.val % 2 + 14 * (p.2.val / 2), by omega⟩
  invFun j := (⟨j.val % 14 / 2, by omega⟩, ⟨j.val % 2 + 2 * (j.val / 14), by omega⟩)
  left_inv p := by revert p; decide
  right_inv j := by revert j; decide

theorem hop_byArray (a : Fin 7) (i : Fin 4) : hop (byArray (a, i)) = (![.r1, .l1, .r2, .l2] : Fin 4 → Hop) i := by revert a i; decide
theorem tn_byArray (a : Fin 7) (i : Fin 4) : tn (byArray (a, i)) = tens a := by revert a i; decide

theorem by_array (Ψ : Hop → Tens → sProp 𝕄) : (bigSep Finset.univ fun j : Fin 28 => Ψ (hop j) (tn j))
    = bigSep Finset.univ fun a : Fin 7 => iprop(Ψ .r1 (tens a) ∗ Ψ .l1 (tens a) ∗ Ψ .r2 (tens a) ∗ Ψ .l2 (tens a)) := by
  rw [bigSep_univ_equiv byArray, bigSep_univ_prod]
  refine bigSep_congr fun a _ => ?_
  rw [bigSep_fin4]
  simp only [hop_byArray, tn_byArray]
  rfl

/-- A resource for each array, written out. -/
theorem each_array (Φ : Tens → sProp 𝕄) : (bigSep Finset.univ fun a : Fin 7 => Φ (tens a))
    = iprop(Φ .x ∗ Φ (.wi 0) ∗ Φ (.wo 0) ∗ Φ (.wi 1) ∗ Φ (.wo 1) ∗ Φ (.wi 2) ∗ Φ (.wo 2)) := by
  rw [bigSep_univ_eq_bigSepL [0, 1, 2, 3, 4, 5, 6] (by decide) (by decide)]
  simp only [bigSepL_cons_cons, bigSepL_singleton]
  rfl

/-! ## Whole buffers as their layers -/

theorem whole_x (f : Buf (Elt F) ((c : Thread nD τ).loc cc0_scratch3)) : ((c : Thread nD τ).loc cc0_scratch3 ↦{fullShare} f : sProp 𝕄) = (gloc .x c ↦[tSet .x]{fullShare} f) := by
  have h : (Finset.univ : Finset (Idx (gloc .x c))) = tSet .x := Finset.ext fun i => ⟨fun _ => (mem_tSet .x i).mpr rfl, fun _ => Finset.mem_univ _⟩
  exact congrArg (fun S => (gloc .x c ↦[S]{fullShare} f : sProp 𝕄)) h
theorem whole_wi (f : Buf (Elt F) ((c : Thread nD τ).loc cc0_scratch4)) : ((c : Thread nD τ).loc cc0_scratch4 ↦{fullShare} f : sProp 𝕄)
    = iprop((gloc (.wi 0) c ↦[tSet (.wi 0)]{fullShare} f) ∗ (gloc (.wi 1) c ↦[tSet (.wi 1)]{fullShare} f) ∗ (gloc (.wi 2) c ↦[tSet (.wi 2)]{fullShare} f)) := by
  have h := pts_colour (F := F) (ℓ := gloc (.wi 0) c) 3 Finset.univ (lay (.wi 0)) (fun i _ => ((show S3x128x1024.Idx from i) 0).isLt) (fun l => tSet (.wi l))
    (fun l i => (mem_tSet (.wi l) i).trans ⟨fun h => ⟨Finset.mem_univ _, h⟩, fun h => h.2⟩) fullShare f
  exact h.trans (bigSep_fin3 fun l : Fin 3 => (gloc (.wi l) c ↦[tSet (.wi l)]{fullShare} f : sProp 𝕄))
theorem whole_wo (f : Buf (Elt F) ((c : Thread nD τ).loc cc0_scratch5)) : ((c : Thread nD τ).loc cc0_scratch5 ↦{fullShare} f : sProp 𝕄)
    = iprop((gloc (.wo 0) c ↦[tSet (.wo 0)]{fullShare} f) ∗ (gloc (.wo 1) c ↦[tSet (.wo 1)]{fullShare} f) ∗ (gloc (.wo 2) c ↦[tSet (.wo 2)]{fullShare} f)) := by
  have h := pts_colour (F := F) (ℓ := gloc (.wo 0) c) 3 Finset.univ (lay (.wo 0)) (fun i _ => ((show S3x1024x128.Idx from i) 0).isLt) (fun l => tSet (.wo l))
    (fun l i => (mem_tSet (.wo l) i).trans ⟨fun h => ⟨Finset.mem_univ _, h⟩, fun h => h.2⟩) fullShare f
  exact h.trans (bigSep_fin3 fun l : Fin 3 => (gloc (.wo l) c ↦[tSet (.wo l)]{fullShare} f : sProp 𝕄))

/-- One staged array's elements, at contents `f` of its staging buffer. -/
abbrev stPts (t : Tens) (f : Buf (Elt F) ((stM t).view.loc (c : Thread nD τ))) : sProp 𝕄 :=
  (stM t).view.loc (c : Thread nD τ) ↦[(stM t).view.set]{fullShare} f

theorem stage_x (f : Buf (Elt F) ((c : Thread nD τ).loc cc0_scratch0)) : ((c : Thread nD τ).loc cc0_scratch0 ↦{fullShare} f : sProp 𝕄) = stPts c .x f :=
  congrArg (fun S => ((c : Thread nD τ).loc cc0_scratch0 ↦[S]{fullShare} f : sProp 𝕄)) (View.set_whole cc0_scratch0).symm
theorem stage_wi (f : Buf (Elt F) ((c : Thread nD τ).loc cc0_scratch1)) : ((c : Thread nD τ).loc cc0_scratch1 ↦{fullShare} f : sProp 𝕄)
    = iprop(stPts c (.wi 0) f ∗ stPts c (.wi 1) f ∗ stPts c (.wi 2) f) := by
  have h := pts_colour (F := F) (ℓ := (c : Thread nD τ).loc cc0_scratch1) 3 Finset.univ (fun i : S3x128x256.Idx => (i 0).val)
    (fun i _ => ((show S3x128x256.Idx from i) 0).isLt) (fun l => (stM (.wi l)).view.set)
    (fun l (i : S3x128x256.Idx) => by
      have h1 : (i 1).val < 128 := (i 1).isLt
      have h2 : (i 2).val < 256 := (i 2).isLt
      refine (iff_of_eq (congrArg (i ∈ ·) (stM_setWi l))).trans ((mem_unit3 (inbSi l) i).trans ?_)
      show (l.val ≤ (i 0).val ∧ (i 0).val < l.val + 1) ∧ (0 ≤ (i 1).val ∧ (i 1).val < 0 + 128) ∧ (0 ≤ (i 2).val ∧ (i 2).val < 0 + 256) ↔ i ∈ Finset.univ ∧ (i 0).val = l.val
      exact ⟨fun h => ⟨Finset.mem_univ _, by omega⟩, fun h => by have := h.2; omega⟩) fullShare f
  exact h.trans (bigSep_fin3 fun l : Fin 3 => stPts c (.wi l) f)
theorem stage_wo (f : Buf (Elt F) ((c : Thread nD τ).loc cc0_scratch2)) : ((c : Thread nD τ).loc cc0_scratch2 ↦{fullShare} f : sProp 𝕄)
    = iprop(stPts c (.wo 0) f ∗ stPts c (.wo 1) f ∗ stPts c (.wo 2) f) := by
  have h := pts_colour (F := F) (ℓ := (c : Thread nD τ).loc cc0_scratch2) 3 Finset.univ (fun i : S3x256x128.Idx => (i 0).val)
    (fun i _ => ((show S3x256x128.Idx from i) 0).isLt) (fun l => (stM (.wo l)).view.set)
    (fun l (i : S3x256x128.Idx) => by
      have h1 : (i 1).val < 256 := (i 1).isLt
      have h2 : (i 2).val < 128 := (i 2).isLt
      refine (iff_of_eq (congrArg (i ∈ ·) (stM_setWo l))).trans ((mem_unit3 (inbSo l) i).trans ?_)
      show (l.val ≤ (i 0).val ∧ (i 0).val < l.val + 1) ∧ (0 ≤ (i 1).val ∧ (i 1).val < 0 + 256) ∧ (0 ≤ (i 2).val ∧ (i 2).val < 0 + 128) ↔ i ∈ Finset.univ ∧ (i 0).val = l.val
      exact ⟨fun h => ⟨Finset.mem_univ _, by omega⟩, fun h => by have := h.2; omega⟩) fullShare f
  exact h.trans (bigSep_fin3 fun l : Fin 3 => stPts c (.wo l) f)

/-! ## The launch's buffers -/

/-- The six scratch buffers, holding anything. -/
def scr : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f))

/-- An argument array, unchanged. -/
abbrev argP (b : Ref sig .tc) : sProp 𝕄 := (c : Thread nD τ).loc b ↦{fullShare} m ((c : Thread nD τ).loc b)
/-- The seven of them. -/
def args : sProp 𝕄 :=
  iprop(argP m c main_arg0 ∗ argP m c main_arg1 ∗ argP m c main_arg2 ∗ argP m c main_arg3 ∗ argP m c main_arg4 ∗ argP m c main_arg5 ∗ argP m c main_arg6)

theorem args_eq : args m c = bigSep Finset.univ fun a : Fin 7 => arP m (tens a) c := by
  rw [each_array fun t => arP m t c]
  have h (b : Ref sig .tc) : argP m c b = ((c : Thread nD τ).loc b ↦[(View.whole b).set]{fullShare} m ((c : Thread nD τ).loc b) : sProp 𝕄) :=
    congrArg (fun S => ((c : Thread nD τ).loc b ↦[S]{fullShare} m ((c : Thread nD τ).loc b) : sProp 𝕄)) (View.set_whole b).symm
  unfold args
  rw [h main_arg0, h main_arg1, h main_arg2, h main_arg3, h main_arg4, h main_arg5, h main_arg6]
  rfl

/-! ## Entering -/

/-- The buffer of one array, holding anything, is its own chunk and the room for its four transfers. -/
theorem open_array (t : Tens) (f : Buf (Elt F) (gloc t c)) :
    (gloc t c ↦[tSet t]{fullShare} f : sProp 𝕄) ⊢ iprop(cAny t 0 c ∗ dstA .r1 t c ∗ dstA .l1 t c ∗ dstA .r2 t c ∗ dstA .l2 t c) := by
  rw [pts_chunks, pts_halves t 2]
  show _ ⊢ iprop(cAny t 0 c ∗ cAny t 3 c ∗ cAny t 1 c ∗ hAny t 2 0 c ∗ hAny t 2 1 c)
  unfold cAny hAny
  iintro ⟨H0, H1, ⟨H20, H21⟩, H3⟩
  isplitl [H0]; · iexists f; iexact H0
  isplitl [H3]; · iexists f; iexact H3
  isplitl [H1]; · iexists f; iexact H1
  isplitl [H20]; · iexists f; iexact H20
  iexists f; iexact H21

/-- One array, staged and gathered, holding anything. -/
def blank (t : Tens) : sProp 𝕄 := iprop(stA t c ∗ ∃ f, gloc t c ↦[tSet t]{fullShare} f)

theorem scr_open : (scr c : sProp 𝕄) ⊢ bigSep Finset.univ fun a : Fin 7 => blank c (tens a) := by
  rw [each_array fun t => blank c t]
  unfold scr blank stA
  iintro ⟨⟨%f0, H0⟩, ⟨%f1, H1⟩, ⟨%f2, H2⟩, ⟨%f3, H3⟩, ⟨%f4, H4⟩, ⟨%f5, H5⟩⟩
  ihave H0 := (Entails.of_eq (stage_x c f0)) $$ H0
  ihave H1 := (Entails.of_eq (stage_wi c f1)) $$ H1
  icases H1 with ⟨H10, H11, H12⟩
  ihave H2 := (Entails.of_eq (stage_wo c f2)) $$ H2
  icases H2 with ⟨H20, H21, H22⟩
  ihave H3 := (Entails.of_eq (whole_x c f3)) $$ H3
  ihave H4 := (Entails.of_eq (whole_wi c f4)) $$ H4
  icases H4 with ⟨H40, H41, H42⟩
  ihave H5 := (Entails.of_eq (whole_wo c f5)) $$ H5
  icases H5 with ⟨H50, H51, H52⟩
  isplitl [H0 H3]
  · isplitl [H0]; · iexists f0; iexact H0
    iexists f3; iexact H3
  isplitl [H10 H40]
  · isplitl [H10]; · iexists f1; iexact H10
    iexists f4; iexact H40
  isplitl [H20 H50]
  · isplitl [H20]; · iexists f2; iexact H20
    iexists f5; iexact H50
  isplitl [H11 H41]
  · isplitl [H11]; · iexists f1; iexact H11
    iexists f4; iexact H41
  isplitl [H21 H51]
  · isplitl [H21]; · iexists f2; iexact H21
    iexists f5; iexact H51
  isplitl [H12 H42]
  · isplitl [H12]; · iexists f1; iexact H12
    iexists f4; iexact H42
  isplitl [H22]; · iexists f2; iexact H22
  iexists f5; iexact H52

theorem blank_open (t : Tens) : (blank c t : sProp 𝕄) ⊢ iprop(stA t c ∗ cAny t 0 c ∗ dstA .r1 t c ∗ dstA .l1 t c ∗ dstA .r2 t c ∗ dstA .l2 t c) := by
  unfold blank
  iintro ⟨HS, %f, H⟩
  isplitl [HS]; · iexact HS
  iapply (open_array c t f) $$ H

/-- The scratch buffers are the staging of every array, its own chunk, and the room for every transfer. -/
theorem entry : (scr c : sProp 𝕄) ⊢ iprop((bigSep Finset.univ fun a : Fin 7 => stA (tens a) c) ∗ (bigSep Finset.univ fun a : Fin 7 => cAny (tens a) 0 c)
    ∗ bigSep Finset.univ fun j : Fin 28 => room c j) := by
  unfold room
  rw [by_array fun h t => dstA h t c, ← bigSep_sep', ← bigSep_sep']
  exact (scr_open c).trans (bigSep_mono fun a _ => blank_open c (tens a))

/-- The room on device `c` is what it hands its left neighbour and its right neighbour. -/
theorem rooms_deal : (bigSep Finset.univ fun j : Fin 28 => room (F := F) c j) = iprop(barPay (prv c) true ∗ barPay (nxt c) false) := by
  have h1 : barPay (F := F) (prv c) true = bigSep (goes true) fun j => room c j := by
    unfold barPay
    refine bigSep_congr fun j hj => ?_
    have : (hop j).right = true := (Finset.mem_filter.mp hj).2
    rw [show peer j (prv c) = c from by unfold peer Hop.to; rw [this, if_pos rfl]; exact nxt_prv c]
  have h2 : barPay (F := F) (nxt c) false = bigSep (goes false) fun j => room c j := by
    unfold barPay
    refine bigSep_congr fun j hj => ?_
    have : (hop j).right = false := (Finset.mem_filter.mp hj).2
    rw [show peer j (nxt c) = c from by unfold peer Hop.to; rw [this]; exact prv_nxt c]
  rw [h1, h2]
  unfold goes
  have h : (Finset.univ.filter fun j : Fin 28 => (hop j).right = false) = Finset.univ.filter fun j : Fin 28 => ¬ (hop j).right = true := by
    ext j; simp
  rw [h]
  exact BI.bigSep_filter_split _ _

/-! ## Leaving -/

/-- What is kept of an array and what its transfers gave back make it whole. -/
theorem close_array (t : Tens) : iprop(cPts m t 0 c fullShare.left ∗ (keptP m .r1 t c ∗ keptP m .l1 t c ∗ keptP m .r2 t c ∗ keptP m .l2 t c)
    ∗ (srcP m .r1 t c ∗ srcP m .l1 t c ∗ srcP m .r2 t c ∗ srcP m .l2 t c)) ⊢ tPts m t c fullShare := by
  rw [tPts_eq, own_split]
  rw [show cPts m t 3 c fullShare = iprop(keptP m .r1 t c ∗ srcP m .r2 t c) from land_r1 m t c,
    show cPts m t 1 c fullShare = iprop(keptP m .l1 t c ∗ srcP m .l2 t c) from land_l1 m t c,
    show hPts m t 2 0 c fullShare = keptP m .r2 t c from rfl, show hPts m t 2 1 c fullShare = keptP m .l2 t c from rfl]
  iintro ⟨H0, ⟨K1, K2, K3, K4⟩, S1, S2, S3, S4⟩
  isplitl [H0 S1 S2]
  · isplitl [H0]; · iexact H0
    isplitl [S1] <;> iassumption
  isplitl [K2 S4]
  · isplitl [K2] <;> iassumption
  isplitl [K3 K4]
  · isplitl [K3] <;> iassumption
  isplitl [K1] <;> iassumption

/-- An array's elements in its gather buffer, at contents `f`. -/
abbrev gaPts (t : Tens) (f : Buf (Elt F) (gloc t c)) : sProp 𝕄 := gloc t c ↦[tSet t]{fullShare} f

theorem scr_close : (bigSep Finset.univ fun a : Fin 7 => iprop(stP m (tens a) c ∗ tPts m (tens a) c fullShare)) ⊢ (scr c : sProp 𝕄) := by
  have h : iprop((stPts c .x (ax m c) ∗ gaPts c .x (gX m c)) ∗ (stPts c (.wi 0) (stWi m c) ∗ gaPts c (.wi 0) (gWi m c)) ∗ (stPts c (.wo 0) (stWo m c) ∗ gaPts c (.wo 0) (gWo m c))
      ∗ (stPts c (.wi 1) (stWi m c) ∗ gaPts c (.wi 1) (gWi m c)) ∗ (stPts c (.wo 1) (stWo m c) ∗ gaPts c (.wo 1) (gWo m c))
      ∗ (stPts c (.wi 2) (stWi m c) ∗ gaPts c (.wi 2) (gWi m c)) ∗ (stPts c (.wo 2) (stWo m c) ∗ gaPts c (.wo 2) (gWo m c))) ⊢ (scr c : sProp 𝕄) := by
    unfold scr
    iintro ⟨⟨H0, H3⟩, ⟨H10, H40⟩, ⟨H20, H50⟩, ⟨H11, H41⟩, ⟨H21, H51⟩, ⟨H12, H42⟩, H22, H52⟩
    isplitl [H0]; · iexists (ax m c); iapply (Entails.of_eq (stage_x c (ax m c)).symm); iexact H0
    isplitl [H10 H11 H12]
    · iexists (stWi m c); iapply (Entails.of_eq (stage_wi c (stWi m c)).symm)
      isplitl [H10]; · iexact H10
      isplitl [H11]; · iexact H11
      iexact H12
    isplitl [H20 H21 H22]
    · iexists (stWo m c); iapply (Entails.of_eq (stage_wo c (stWo m c)).symm)
      isplitl [H20]; · iexact H20
      isplitl [H21]; · iexact H21
      iexact H22
    isplitl [H3]; · iexists (gX m c); iapply (Entails.of_eq (whole_x c (gX m c)).symm); iexact H3
    isplitl [H40 H41 H42]
    · iexists (gWi m c); iapply (Entails.of_eq (whole_wi c (gWi m c)).symm)
      isplitl [H40]; · iexact H40
      isplitl [H41]; · iexact H41
      iexact H42
    iexists (gWo m c); iapply (Entails.of_eq (whole_wo c (gWo m c)).symm)
    isplitl [H50]; · iexact H50
    isplitl [H51]; · iexact H51
    iexact H52
  exact (Entails.of_eq (each_array fun t => iprop(stP m t c ∗ tPts m t c fullShare))).trans h

/-- The staged arrays and the pieces of the gathered ones are the scratch buffers again. -/
theorem exit_scr : iprop((bigSep Finset.univ fun a : Fin 7 => stP m (tens a) c) ∗ (bigSep Finset.univ fun a : Fin 7 => cPts m (tens a) 0 c fullShare.left)
    ∗ (bigSep Finset.univ fun j : Fin 28 => keptP m (hop j) (tn j) c) ∗ bigSep Finset.univ fun j : Fin 28 => srcP m (hop j) (tn j) c) ⊢ (scr c : sProp 𝕄) := by
  rw [by_array fun h t => keptP m h t c, by_array fun h t => srcP m h t c, ← bigSep_sep', ← bigSep_sep', ← bigSep_sep']
  refine BI.Entails.trans (bigSep_mono fun a _ => ?_) (scr_close m c)
  exact sep_mono_right (close_array m c (tens a))

/-- The cells of device `c`, all at zero. -/
def zeros : sProp 𝕄 :=
  iprop((bigSep Finset.univ fun a : Fin 7 => semVal (copyCell c a) 0) ∗ (bigSep Finset.univ fun j : Fin 28 => semVal (sendCell c j) 0)
    ∗ bigSep Finset.univ fun j : Fin 28 => semVal (recvCell c j) 0)

/-- What a device holds before its body beside the records and what it owes. -/
def Start : sProp 𝕄 :=
  iprop((dutyTok ER (barCell (prv c)) 0 true ∗ dutyTok ER (barCell (nxt c)) 0 false ∗ cred (tallyAt (barCell c) () 2) ∗ atPos ER (barCell c) 0 ∅ 0)
    ∗ ((bigSep Finset.univ fun j : Fin 28 => dutyTok ER (sendCell c j) 0 false) ∗ (bigSep Finset.univ fun j : Fin 28 => dutyTok ER (recvCell (peer j c) j) 0 false)
      ∗ (bigSep Finset.univ fun j : Fin 28 => atPos ER (sendCell c j) 0 ∅ 0))
    ∗ ((bigSep Finset.univ fun j : Fin 28 => cred (tallyAt (recvCell c j) () (Nx j))) ∗ (bigSep Finset.univ fun j : Fin 28 => atPos ER (recvCell c j) 0 ∅ 0))
    ∗ ((bigSep Finset.univ fun a : Fin 7 => dutyTok ER (copyCell c a) 0 false) ∗ (bigSep Finset.univ fun a : Fin 7 => atPos ER (copyCell c a) 0 ∅ 0)))

theorem enter (f : Buf (Elt F) ((c : Thread nD τ).loc cc0_stg0_0)) :
    iprop(Rec m K ∗ Start c ∗ args m c ∗ scr c ∗ (∃ W, owes (c : Thread nD τ) (O₀ c) W) ∗ outPts c f) ⊢ World m K c 0 0 0 0 0 0 0 0 f := by
  unfold World Snd Lend Rcv Cps Start
  rw [show Bar (F := F) c 0 0 = iprop((∃ W, owes (c : Thread nD τ) (O₀ c) W) ∗ (dutyTok ER (barCell (prv c)) 0 true ∗ barPay (prv c) true)
      ∗ (dutyTok ER (barCell (nxt c)) 0 false ∗ barPay (nxt c) false) ∗ cred (tallyAt (barCell c) () 2) ∗ atPos ER (barCell c) 0 ∅ 0) from rfl]
  simp only [seg_all, seg_nil 0 0 (Nat.le_refl 0), bigSep_sep']
  rw [← args_eq]
  iintro ⟨HR, ⟨⟨HtP, HtN, HcB, HaB⟩, ⟨HtS, HtR, HaS⟩, ⟨HcR, HaR⟩, HtC, HaC⟩, Har, Hscr, HO, Hout⟩
  ihave Hscr := (entry (F := F) c) $$ Hscr
  icases Hscr with ⟨Hst, Hch, Hroom⟩
  ihave Hroom := (Entails.of_eq (rooms_deal (F := F) c)) $$ Hroom
  icases Hroom with ⟨HrP, HrN⟩
  isplitl [HR]; · iexact HR
  isplitl [HO HtP HtN HcB HaB HrP HrN]
  · isplitl [HO]; · iexact HO
    isplitl [HtP HrP]
    · isplitl [HtP] <;> iassumption
    isplitl [HtN HrN]
    · isplitl [HtN] <;> iassumption
    isplitl [HcB] <;> iassumption
  isplitl [HtS HtR HaS]
  · isplitl [HtS HtR]
    · isplitl [HtS] <;> iassumption
    isplitr; · iempintro
    isplitl [HaS]; · iexact HaS
    iempintro
  isplitr; · iempintro
  isplitl [HcR HaR]
  · isplitl [HcR HaR]
    · isplitl [HcR] <;> iassumption
    iempintro
  isplitr [Hout]
  · isplitl [HtC Hst Har]
    · isplitl [HtC]; · iexact HtC
      isplitl [Hst] <;> iassumption
    isplitr; · iempintro
    isplitl [HaC]; · iexact HaC
    isplitr; · iempintro
    isplitl [Hch]; · iexact Hch
    iempintro
  iexact Hout

theorem leave (f : Buf (Elt F) ((c : Thread nD τ).loc cc0_stg0_0)) :
    World m K c 3 28 28 28 28 7 7 7 f
      ⊢ iprop((semVal (barCell c) 0 ∗ zeros c ∗ scr c ∗ args m c) ∗ (∃ W, owes (c : Thread nD τ) 0 W) ∗ outPts c f) := by
  unfold World Snd Lend Rcv Cps zeros
  rw [bar3, owing_end]
  simp only [seg_all, seg_nil 28 28 (Nat.le_refl 28), seg_nil 7 7 (Nat.le_refl 7), bigSep_sep']
  rw [← args_eq]
  iintro ⟨-, ⟨HO, HzB, -⟩, ⟨-, -, -, HzS, Hsrc⟩, -, ⟨-, HzR, Hkept⟩, ⟨-, -, -, ⟨HzC, Hst, Har⟩, -, Hown⟩, Hout⟩
  isplitr [HO Hout]
  · isplitl [HzB]; · iexact HzB
    isplitl [HzC HzS HzR]
    · isplitl [HzC]; · iexact HzC
      isplitl [HzS] <;> iassumption
    isplitr [Har]
    · iapply (exit_scr m c)
      isplitl [Hst]; · iexact Hst
      isplitl [Hown]; · iexact Hown
      isplitl [Hkept] <;> iassumption
    iexact Har
  isplitl [HO] <;> iassumption

end Cert.Gather

end
-- ==== Proof.Out.lean ====
/-
What a device's result buffer holds once its four row blocks are stored: the last product with its row blocks moved back
to where the unrotated `x` has them.
-/
module

public import proofs.«01_k».proof.Proof.Body3

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.Sem

variable {F : FTy → Type} [FloatOps F]
variable (c : Dev nD)

/-- Rows moved from the order device `c` gathers them in to their own: row `i` of the result is row `i - 128·c` of `z`. -/
def unrot (z : S512x128.Idx → Elt F .bf16) (c : Dev nD) : S512x128.Idx → Elt F .bf16 := fun i =>
  z (ix2 (n0 := 512) ⟨((i 0).val + 128 * (4 - c.val)) % 512, Nat.mod_lt _ (by decide)⟩ (i 1))

/-- The rectangle the `r`-th row block is stored in. -/
abbrev outR (r : Fin 4) : Rect S512x128 := Rect.unit (s := S512x128) (k0_off1 c (BitVec.ofNat 32 r.val)) S128x128.size (k0_off1_inb c r)
/-- The same as a view of the result buffer. -/
abbrev outV (r : Fin 4) : View sig .tc .vmem S128x128 .bf16 := (Memref.whole cc0_stg0_0 : Memref sig .tc .vmem S512x128 .bf16).access (outR c r)

theorem out_off (r : Fin 4) : k0_off1 c (BitVec.ofNat 32 r.val) 0 = 128 * ((c.val + r.val) % 4) ∧ k0_off1 c (BitVec.ofNat 32 r.val) 1 = 0 :=
  ⟨congrFun (k0_off1_eq c r) 0, congrFun (k0_off1_eq c r) 1⟩

theorem mem_outR (r : Fin 4) (i : S512x128.Idx) : i ∈ (outR c r).set ↔ (i 0).val / 128 = (c.val + r.val) % 4 := by
  have h1 : (i 1).val < 128 := (i 1).isLt
  refine (mem_unit2 (k0_off1_inb c r) i).trans ?_
  rw [(out_off c r).1, (out_off c r).2]
  show (128 * ((c.val + r.val) % 4) ≤ (i 0).val ∧ (i 0).val < 128 * ((c.val + r.val) % 4) + 128) ∧ (0 ≤ (i 1).val ∧ (i 1).val < 0 + 128) ↔ _
  omega

/-- Row block `r` of `z` is what the unrotated `z` has in the `r`-th rectangle. -/
theorem read_out (z : S512x128.Idx → Elt F .bf16) (r : Fin 4) (h : S512x128.Slices ![r.val * 128, 0] S128x128) :
    extractStridedSlice S128x128 ![r.val * 128, 0] z h = (outV c r).read (Elt F) (unrot z c) := by
  funext (y : S128x128.Idx)
  have hy : y = ix2 (y 0) (y 1) := by funext a; fin_cases a <;> rfl
  have h0 : (y 0).val < 128 := (y 0).isLt
  have hc : c.val < 4 := c.isLt
  have hr : r.val < 4 := r.isLt
  have e0 : ((outR c r).emb y 0).val = 128 * ((c.val + r.val) % 4) + (y 0).val :=
    (ValueKit.rect_emb_unit_val _ _ _ _ _).trans (congrArg (· + (y 0).val) (out_off c r).1)
  have e1 : ((outR c r).emb y 1).val = (y 1).val :=
    (ValueKit.rect_emb_unit_val _ _ _ _ _).trans ((congrArg (· + (y 1).val) (out_off c r).2).trans (Nat.zero_add _))
  have hk : r.val * 128 + (y 0).val < 512 := by omega
  refine (congrArg _ hy).trans ((slice2_axis0_apply (r.val * 128) z h (y 0) (y 1) ⟨r.val * 128 + (y 0).val, hk⟩ rfl).trans ?_)
  show _ = z (ix2 (n0 := 512) ⟨(((outR c r).emb y 0).val + 128 * (4 - c.val)) % 512, _⟩ ((outR c r).emb y 1))
  have ea : (⟨r.val * 128 + (y 0).val, hk⟩ : Fin 512) = ⟨(((outR c r).emb y 0).val + 128 * (4 - c.val)) % 512, Nat.mod_lt _ (by decide)⟩ := by
    apply Fin.ext
    show r.val * 128 + (y 0).val = (((outR c r).emb y 0).val + 128 * (4 - c.val)) % 512
    rw [e0]; omega
  have eb : y 1 = (outR c r).emb y 1 := Fin.ext e1.symm
  exact congrArg z (congrArg₂ (ix2 (n0 := 512) (n1 := 128)) ea eb)

theorem put_one (G f : S512x128.Idx → Elt F .bf16) (r : Fin 4) (v : S128x128.Idx → Elt F .bf16) (hv : v = (outV c r).read (Elt F) G) (i : S512x128.Idx) :
    (outV c r).write (Elt F) f v Finset.univ i = if (i 0).val / 128 = (c.val + r.val) % 4 then G i else f i := by
  subst hv
  have hs : (outV c r).set = (outR c r).set := View.set_slice_whole cc0_stg0_0 (outR c r)
  have h1 : (outV c r).write (Elt F) f ((outV c r).read (Elt F) G) Finset.univ = (outV c r).set.piecewise G f := by
    rw [View.write_read_eq_piecewise, View.setOn_univ]
  refine (congrFun h1 i).trans ?_
  by_cases h : (i 0).val / 128 = (c.val + r.val) % 4
  · rw [if_pos h]; exact Finset.piecewise_eq_of_mem _ _ _ (by rw [hs]; exact (mem_outR c r i).mpr h)
  · rw [if_neg h]; exact Finset.piecewise_eq_of_notMem _ _ _ (by rw [hs]; exact fun hm => h ((mem_outR c r i).mp hm))

/-- The four stores leave the unrotated product, whatever was there before. -/
theorem putAll_eq (h : FVec F S512x1024 .bf16) (u : Vec F S1x1024x128 .bf16) (f : S512x128.Idx → Elt F .bf16) : putAll h u c f = unrot (k0_pay11 h u) c := by
  funext i
  have hi : (i 0).val < 512 := (i 0).isLt
  have hc : c.val < 4 := c.isLt
  unfold putAll
  dsimp only
  refine (put_one c (unrot (k0_pay11 h u) c) _ 3 _ (read_out c (k0_pay11 h u) 3 slices_S512x128_o384_0_S128x128) i).trans ?_
  by_cases h3 : (i 0).val / 128 = (c.val + (3 : Fin 4).val) % 4
  · rw [if_pos h3]
  rw [if_neg h3]
  refine (put_one c (unrot (k0_pay11 h u) c) _ 2 _ (read_out c (k0_pay11 h u) 2 slices_S512x128_o256_0_S128x128) i).trans ?_
  by_cases h2 : (i 0).val / 128 = (c.val + (2 : Fin 4).val) % 4
  · rw [if_pos h2]
  rw [if_neg h2]
  refine (put_one c (unrot (k0_pay11 h u) c) _ 1 _ (read_out c (k0_pay11 h u) 1 slices_S512x128_o128_0_S128x128) i).trans ?_
  by_cases h1 : (i 0).val / 128 = (c.val + (1 : Fin 4).val) % 4
  · rw [if_pos h1]
  rw [if_neg h1]
  refine (put_one c (unrot (k0_pay11 h u) c) _ 0 _ (read_out c (k0_pay11 h u) 0 slices_S512x128_o0_0_S128x128) i).trans ?_
  have h0 : (i 0).val / 128 = (c.val + (0 : Fin 4).val) % 4 := by
    have e0 : (0 : Fin 4).val = 0 := rfl
    have e1 : (1 : Fin 4).val = 1 := rfl
    have e2 : (2 : Fin 4).val = 2 := rfl
    have e3 : (3 : Fin 4).val = 3 := rfl
    omega
  rw [if_pos h0]

end Cert.Gather

end
-- ==== Proof.Cells.lean ====
/-
The launch's cells: every cell and every token counted once, dealt to the device that uses it, and the credit each
device's cells have from what the others owe.
-/
module

public import proofs.«01_k».proof.Proof.Split
public import proofs.«01_k».proof.Proof.Out

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The semaphores -/

/-- The kernel's own semaphores: the copies', the sends', the receives'. -/
abbrev Own : Type := Fin 7 ⊕ Fin 28 ⊕ Fin 28
/-- Every cell's number: the barrier's, then the own ones'. -/
def cellNo : Unit ⊕ Own → Fin 64
  | .inl _ => kB
  | .inr (.inl a) => copyS a
  | .inr (.inr (.inl j)) => sendS j
  | .inr (.inr (.inr j)) => recvS j
def noCell (n : Fin 64) : Unit ⊕ Own :=
  match use n.val with
  | .stage => .inl ()
  | .copy a => .inr (.inl a)
  | .send j => .inr (.inr (.inl j))
  | .recv j => .inr (.inr (.inr j))

theorem noCell_cellNo (x : Unit ⊕ Own) : noCell (cellNo x) = x := by
  rcases x with ⟨⟩ | a | j | j
  · rfl
  · show noCell (copyS a) = _; unfold noCell; rw [use_copy]
  · show noCell (sendS j) = _; unfold noCell; rw [use_send]
  · show noCell (recvS j) = _; unfold noCell; rw [use_recv]
theorem cellNo_noCell (n : Fin 64) : cellNo (noCell n) = n := by revert n; decide

def cellEquiv : Unit ⊕ Own ≃ Fin 64 := ⟨cellNo, noCell, noCell_cellNo, cellNo_noCell⟩

/-- One resource per cell, the barrier's apart from the copies', the sends' and the receives'. -/
theorem by_cell (Φ : Fin 64 → sProp 𝕄) : bigSep Finset.univ Φ
    = iprop(Φ kB ∗ (bigSep Finset.univ fun a : Fin 7 => Φ (copyS a)) ∗ (bigSep Finset.univ fun j : Fin 28 => Φ (sendS j)) ∗ bigSep Finset.univ fun j : Fin 28 => Φ (recvS j)) := by
  rw [BI.bigSep_univ_equiv cellEquiv, BI.bigSep_univ_sum, BI.bigSep_univ_sum, BI.bigSep_univ_sum, BI.bigSep_univ_of_subsingleton ()]
  rfl

abbrev osem : Own → SemLoc sig
  | .inl a => .dma (copyS a)
  | .inr (.inl j) => .dma (sendS j)
  | .inr (.inr j) => .dma (recvS j)

theorem osem_eq (o : Own) : osem o = .dma (show DmaSem sig from cellNo (.inr o)) := by rcases o with a | j | j <;> rfl
theorem dma_inj {a b : Fin 64} (h : (SemLoc.dma (show DmaSem sig from a) : SemLoc sig) = .dma (show DmaSem sig from b)) : a = b := SemLoc.dma.inj h
theorem osem_injective : Function.Injective osem := fun o o' h => by
  rw [osem_eq, osem_eq] at h
  exact Sum.inr.inj (cellEquiv.injective (dma_inj h))
theorem use_osem (o : Own) : use (cellNo (.inr o)).val ≠ .stage := by
  rcases o with a | j | j
  · show use (copyS a).val ≠ _; rw [use_copy]; exact fun h => by cases h
  · show use (sendS j).val ≠ _; rw [use_send]; exact fun h => by cases h
  · show use (recvS j).val ≠ _; rw [use_recv]; exact fun h => by cases h

theorem ownSemFacts : Pipeline.OwnSemFacts cfg0.spec osem where
  isScoped o := by
    rw [osem_eq]
    exact (by decide : ∀ n : Fin 64, SemLoc.isScoped .tc (SemLoc.dma (show DmaSem sig from n) : SemLoc sig) = true) _
  inj := osem_injective
  disj o w s h := by
    rw [osem_eq] at h
    have hs : ∀ (w : Fin cfg0.W) (s : Fin (cfg0.spec w).nbuf), use (show Fin 64 from (cfg0.spec w).sem s).val = .stage := by
      intro w s; fin_cases w; fin_cases s; rfl
    exact use_osem o ((congrArg (fun q : Fin 64 => use q.val) (dma_inj h)).trans (hs w s))

theorem kcell_injective : Function.Injective (kcell : Dev nD × Fin 64 → GSem nD τ sig) := by
  rintro ⟨c, k⟩ ⟨c', k'⟩ h
  by_cases hk : k.val = 0 <;> by_cases hk' : k'.val = 0
  · have e : k = k' := Fin.ext (hk.trans hk'.symm)
    subst e
    rw [show kcell (c, k) = barCell c from if_pos hk, show kcell (c', k) = barCell c' from if_pos hk] at h
    have := congrArg (fun g : GSem nD τ sig => g.1.1) h
    rw [show c = c' from this]
  · rw [show kcell (c, k) = barCell c from if_pos hk, kcell_dma c' k' hk'] at h
    exact absurd (congrArg Prod.snd h) (fun h => by cases h)
  · rw [kcell_dma c k hk, show kcell (c', k') = barCell c' from if_pos hk'] at h
    exact absurd (congrArg Prod.snd h) (fun h => by cases h)
  · rw [kcell_dma c k hk, kcell_dma c' k' hk'] at h
    have h1 : c = c' := congrArg (fun g : GSem nD τ sig => g.1.1) h
    have h2 : k = k' := dma_inj (congrArg Prod.snd h)
    rw [h1, h2]
def ringCells : Finset (GSem nD τ sig) := Finset.univ.map ⟨kcell, kcell_injective⟩

/-! ## The tokens -/

/-- The duties of a device's own cells: the barrier's two, and one for each own semaphore. -/
abbrev tokOf (p : Dev nD × (Bool ⊕ Own)) : GSem nD τ sig × ℕ × Bool := match p.2 with
  | .inl d => (barCell p.1, 0, d)
  | .inr o => (((p.1 : Thread nD τ), osem o), 0, false)
theorem tokOf_injective : Function.Injective (tokOf : Dev nD × (Bool ⊕ Own) → GSem nD τ sig × ℕ × Bool) := by
  rintro ⟨c, x⟩ ⟨c', x'⟩ h
  rcases x with d | o <;> rcases x' with d' | o'
  · have h1 : c = c' := congrArg (fun g : GSem nD τ sig × ℕ × Bool => g.1.1.1) h
    have h2 : d = d' := congrArg (fun g : GSem nD τ sig × ℕ × Bool => g.2.2) h
    rw [h1, h2]
  · have h2 : SemLoc.reg barS = osem o' := congrArg (fun g : GSem nD τ sig × ℕ × Bool => g.1.2) h
    rw [osem_eq] at h2; cases h2
  · have h2 : osem o = SemLoc.reg barS := congrArg (fun g : GSem nD τ sig × ℕ × Bool => g.1.2) h
    rw [osem_eq] at h2; cases h2
  · have h1 : c = c' := congrArg (fun g : GSem nD τ sig × ℕ × Bool => g.1.1.1) h
    have h2 : osem o = osem o' := congrArg (fun g : GSem nD τ sig × ℕ × Bool => g.1.2) h
    rw [h1, osem_injective h2]
def ringToks : Finset (GSem nD τ sig × ℕ × Bool) := Finset.univ.map ⟨tokOf, tokOf_injective⟩

/-- The duty tokens of device `c`'s own cells. -/
def toks : sProp 𝕄 :=
  iprop((dutyTok ER (barCell c) 0 true ∗ dutyTok ER (barCell c) 0 false)
    ∗ (bigSep Finset.univ fun a : Fin 7 => dutyTok ER (copyCell c a) 0 false) ∗ (bigSep Finset.univ fun j : Fin 28 => dutyTok ER (sendCell c j) 0 false)
    ∗ bigSep Finset.univ fun j : Fin 28 => dutyTok ER (recvCell c j) 0 false)

theorem ringToks_eq : bigSep ringToks (fun x => (dutyTok ER x.1 x.2.1 x.2.2 : sProp 𝕄)) = bigSep Finset.univ fun c : Dev nD => toks c := by
  unfold ringToks
  rw [BI.bigSep_map, BI.bigSep_univ_prod]
  refine bigSep_congr fun c _ => ?_
  rw [BI.bigSep_univ_sum, BI.bigSep_univ_sum, BI.bigSep_univ_sum, bigSep_univ_eq_bigSepL [true, false] (by decide) (by decide), bigSepL_cons_cons, bigSepL_singleton]
  rfl

/-- The tokens device `c` pays with: its neighbours' barriers', its own copies' and sends', and the receives' it sends to. -/
def payToks : sProp 𝕄 :=
  iprop((dutyTok ER (barCell (prv c)) 0 true ∗ dutyTok ER (barCell (nxt c)) 0 false)
    ∗ (bigSep Finset.univ fun a : Fin 7 => dutyTok ER (copyCell c a) 0 false) ∗ (bigSep Finset.univ fun j : Fin 28 => dutyTok ER (sendCell c j) 0 false)
    ∗ bigSep Finset.univ fun j : Fin 28 => dutyTok ER (recvCell (peer j c) j) 0 false)

/-- The neighbour a transfer goes to, as a permutation of the devices. -/
def peerE (j : Fin 28) : Dev nD ≃ Dev nD := ⟨peer j, origin j, from_to (hop j), to_from (hop j)⟩

theorem recv_around : (bigSep Finset.univ fun c : Dev nD => bigSep Finset.univ fun j : Fin 28 => (dutyTok ER (recvCell c j) 0 false : sProp 𝕄))
    = bigSep Finset.univ fun c : Dev nD => bigSep Finset.univ fun j : Fin 28 => (dutyTok ER (recvCell (peer j c) j) 0 false : sProp 𝕄) := by
  rw [BI.bigSep_univ_comm, BI.bigSep_univ_comm (fun (c : Dev nD) (j : Fin 28) => (dutyTok ER (recvCell (peer j c) j) 0 false : sProp 𝕄))]
  exact bigSep_congr fun j _ => BI.bigSep_univ_equiv (peerE j) fun c : Dev nD => (dutyTok ER (recvCell c j) 0 false : sProp 𝕄)

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', recv_around,
    BI.bigSep_univ_equiv ring.symm (fun c : Dev nD => (dutyTok ER (barCell c) 0 true : sProp 𝕄)),
    BI.bigSep_univ_equiv ring (fun c : Dev nD => (dutyTok ER (barCell c) 0 false : sProp 𝕄))]
  exact BI.Entails.refl _

/-! ## The credit at launch -/

theorem barCell_iff {a b : Dev nD} : barCell a = barCell b ↔ a = b :=
  ⟨fun h => congrArg (fun g : GSem nD τ sig => g.1.1) h, fun h => h ▸ rfl⟩
theorem recvCell_iff {a b : Dev nD} {j : Fin 28} : recvCell a j = recvCell b j ↔ a = b :=
  ⟨fun h => congrArg (fun g : GSem nD τ sig => g.1.1) h, fun h => h ▸ rfl⟩
theorem recvS_injective : Function.Injective recvS := fun i j h => by
  have : Use.recv i = Use.recv j := (use_recv i).symm.trans ((congrArg (fun q : DmaSem sig => use (show Fin 64 from q).val) h).trans (use_recv j))
  exact Use.recv.inj this
theorem recv_ne_bar (a b : Dev nD) (j : Fin 28) : recvCell a j ≠ barCell b := fun h => by
  have := congrArg Prod.snd h; cases this

/-- What device `d` owes a barrier cell: a unit to each neighbour's. -/
theorem owed_bar (d : Dev nD) : O₀ d (barCell c) () = (if d = prv c then 1 else 0) + (if d = nxt c then 1 else 0) := by
  unfold O₀ O₁
  rw [Pi.add_apply, Finsupp.add_apply, Pi.add_apply, Finsupp.add_apply, tallyAt_apply, tallyAt_apply]
  have h0 : owing d 0 (barCell c) () = 0 := by
    by_contra h
    obtain ⟨j, -, hj⟩ := owing_pos (Nat.pos_of_ne_zero h)
    exact recv_ne_bar _ _ _ hj.symm
  rw [h0, Nat.zero_add]
  refine congrArg₂ (· + ·) ?_ ?_
  · by_cases h : d = prv c
    · subst h; rw [nxt_prv, if_pos ⟨rfl, rfl⟩, if_pos rfl]
    · rw [if_neg (fun h1 => h (by rw [← prv_nxt d]; exact congrArg prv (barCell_iff.mp h1.1).symm)), if_neg h]
  · by_cases h : d = nxt c
    · subst h; rw [prv_nxt, if_pos ⟨rfl, rfl⟩, if_pos rfl]
    · rw [if_neg (fun h1 => h (by rw [← nxt_prv d]; exact congrArg nxt (barCell_iff.mp h1.1).symm)), if_neg h]

/-- What device `d` owes a receive cell: the transfer's bytes if it is where the transfer comes from. -/
theorem owed_recv (j : Fin 28) (d : Dev nD) : O₀ d (recvCell c j) () = if d = origin j c then Nx j else 0 := by
  unfold O₀ O₁
  rw [Pi.add_apply, Finsupp.add_apply, Pi.add_apply, Finsupp.add_apply, tallyAt_apply, tallyAt_apply,
    if_neg (fun h => recv_ne_bar _ _ _ h.1), if_neg (fun h => recv_ne_bar _ _ _ h.1), Nat.add_zero]
  unfold owing
  rw [Finset.sum_apply, Finsupp.finset_sum_apply, Finset.sum_eq_single_of_mem j (show j ∈ fromJ 0 from Finset.mem_filter.mpr ⟨Finset.mem_univ _, Nat.zero_le _⟩), tallyAt_apply]
  · by_cases h : d = origin j c
    · subst h; rw [if_pos rfl, if_pos ⟨recvCell_iff.mpr (to_from (hop j) c).symm, rfl⟩]
    · rw [if_neg h, if_neg]
      exact fun h1 => h (by rw [← from_to (hop j) d]; exact congrArg (hop j).from (recvCell_iff.mp h1.1).symm)
  · intro i _ hij
    rw [tallyAt_apply, if_neg]
    exact fun h1 => hij (recvS_injective (SemLoc.dma.inj (congrArg Prod.snd h1.1))).symm

theorem launch_bar :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (prv c) fun _ => 1, Finset.sum_ite_eq' Finset.univ (nxt c) fun _ => 1, if_pos (Finset.mem_univ _), if_pos (Finset.mem_univ _)]
theorem launch_recv (j : Fin 28) :
    tallyOn (recvCell c j) (launchCredit (Pipeline.owing O₀) 0 (recvCell c j)) = (tallyAt (recvCell c j) () (Nx j) : CellTallies nD τ sig Unit) := by
  unfold tallyAt; refine congrArg _ (Finsupp.ext fun u => ?_); cases u
  rw [Pipeline.launchCredit_owing, Finsupp.single_eq_same, Finset.sum_congr rfl fun d _ => owed_recv c j d, Finset.sum_ite_eq' Finset.univ (origin j c) fun _ => Nx j,
    if_pos (Finset.mem_univ _)]

/-- The receives' semaphores among all. -/
def recvE : Fin 28 ↪ SemLoc sig := ⟨fun j => .dma (recvS j), fun i j h => recvS_injective (SemLoc.dma.inj h)⟩

theorem creds : (Pipeline.launchCred O₀ c : sProp 𝕄)
    ⊢ iprop(cred (tallyAt (barCell c) () 2) ∗ bigSep Finset.univ fun j : Fin 28 => cred (tallyAt (recvCell c j) () (Nx j))) := by
  unfold Pipeline.launchCred
  rw [bigSep_univ_at _ (SemLoc.reg barS), launch_bar]
  refine sep_mono_right ?_
  have hsub : (Finset.univ : Finset (Fin 28)).map recvE ⊆ Finset.univ.erase (SemLoc.reg barS) := by
    intro x hx
    obtain ⟨j, -, rfl⟩ := Finset.mem_map.mp hx
    exact Finset.mem_erase.mpr ⟨(fun h => by cases h), Finset.mem_univ _⟩
  refine (BI.bigSep_subset hsub).trans ?_
  rw [BI.bigSep_map]
  exact bigSep_mono fun j _ => Entails.of_eq (congrArg (fun x => (cred x : sProp 𝕄)) (launch_recv c j))

end Cert.Gather

end
-- ==== Proof.Launch.lean ====
/-
The launch: the cells and their tokens made and dealt, the kernel's body run from them on every device, and what every
run of the program ends in.
-/
module

public import proofs.«01_k».proof.Proof.Cells
public import Idealize.ShloMosaic.Lib.Pipeline.CollectiveSegs

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 64 → ℕ) (c : Dev nD)

/-- The start: memory `m`, every counter at zero. -/
def s₀ : MemSt nD τ sig (Elt F) := ⟨m, fun _ => 0, ρ⟩

/-! ## The ghost state -/

def u₀ : UU := (initOf (Pipeline.cells cfgs cellOf_inj) (Pipeline.launchToks cfgs cellOf_inj), initOf ringCells ringToks)

def G : sProp 𝕄 :=
  iprop((bigSep Finset.univ fun k : Fin 64 => roundState ER (sched m) (kcell (c, k)) 0)
    ∗ (bigSep Finset.univ fun k : Fin 64 => iprop(atPos ER (kcell (c, k)) 0 ∅ 0 ∗ reached ER (kcell (c, k)) 0)) ∗ toks c)

theorem ringCells_eq (Φ : GSem nD τ sig → sProp 𝕄) :
    bigSep ringCells Φ = bigSep Finset.univ fun c : Dev nD => bigSep Finset.univ fun k : Fin 64 => Φ (kcell (c, k)) := by
  unfold ringCells; rw [BI.bigSep_map, BI.bigSep_univ_prod]; rfl

theorem fund_ring : BI.own (ER (initOf ringCells ringToks)) ⊢ (|==> bigSep Finset.univ (G m) : sProp 𝕄) := by
  iintro HX
  imod (Rounds.fund ER (sched m) ringCells ringToks) $$ HX with ⟨Hst, Hr, Hat, Htok⟩
  imodintro
  ihave Hst' := (Entails.of_eq (ringCells_eq fun g => roundState ER (sched m) g 0)) $$ Hst
  ihave Hat' := (Entails.of_eq (ringCells_eq fun g => atPos ER g 0 ∅ 0)) $$ Hat
  ihave Hr' := (Entails.of_eq (ringCells_eq fun g => reached ER g 0)) $$ Hr
  ihave Htok' := (Entails.of_eq (ringToks_eq (F := F))) $$ Htok
  unfold G; simp only [bigSep_sep']
  isplitl [Hst']; · iexact Hst'
  isplitl [Hat' Hr']
  · isplitl [Hat'] <;> iassumption
  iexact Htok'

/-- The kernel's own semaphores at zero, by what they are for; -/
theorem ownSems0_eq : (Pipeline.ownSems0 (Ix := Unit) (Name := ℕ) (U := UU) (Lvl := ℕ) (Val := Elt F) (τ := τ) osem c : sProp 𝕄) = zeros c := by
  unfold Pipeline.ownSems0 zeros
  rw [BI.bigSep_univ_sum, BI.bigSep_univ_sum]
  rfl
/-- the barrier semaphore the launch's one unscoped semaphore; -/
theorem unscopedSems0_eq : (unscopedSems0 c : sProp 𝕄) = semVal (barCell c) 0 := by
  unfold unscopedSems0; rw [bigSep_eq_bigSepL_of_eq [SemLoc.reg barS] (by decide) (by decide)]; rfl
/-- together every cell's counter. -/
theorem counters : iprop(Pipeline.ownSems0 (Ix := Unit) (Name := ℕ) (U := UU) (Lvl := ℕ) (Val := Elt F) (τ := τ) osem c ∗ unscopedSems0 c)
    ⊢ (bigSep Finset.univ fun k : Fin 64 => semVal (kcell (c, k)) 0 : sProp 𝕄) := by
  rw [ownSems0_eq, unscopedSems0_eq, by_cell]
  simp only [kcell_bar, kcell_copy, kcell_send, kcell_recv]
  unfold zeros
  iintro ⟨HO, HB⟩
  isplitl [HB] <;> iassumption

theorem core_alloc : iprop(Pipeline.ownSems0 (Ix := Unit) (Name := ℕ) (U := UU) (Lvl := ℕ) (Val := Elt F) (τ := τ) osem c ∗ unscopedSems0 c ∗ G m c)
    ⊢ |={Set.univ}=> iprop((bigSep Finset.univ fun k : Fin 64 => iprop(∃ κ : ℕ, cellInv ER (sched m) κ (kcell (c, k))))
        ∗ (bigSep Finset.univ fun k : Fin 64 => iprop(atPos ER (kcell (c, k)) 0 ∅ 0 ∗ reached ER (kcell (c, k)) 0)) ∗ toks c) := by
  unfold G
  iintro ⟨Hos, Hus, Hst, Hat, Htok⟩
  ihave Hv := (counters (F := F) c) $$ [Hos Hus]
  · isplitl [Hos] <;> iassumption
  imod (show iprop((bigSep Finset.univ fun k : Fin 64 => semVal (kcell (c, k)) 0) ∗ bigSep Finset.univ fun k : Fin 64 => roundState ER (sched m) (kcell (c, k)) 0)
      ⊢ (|={Set.univ}=> bigSep Finset.univ fun k : Fin 64 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every device's records of every cell. -/
def records : sProp 𝕄 :=
  iprop((bigSep Finset.univ fun p : Dev nD × Fin 64 => cellInv ER (sched m) (K p) (kcell p)) ∗ bigSep Finset.univ fun p : Dev nD × Fin 64 => reached ER (kcell p) 0)

instance records_persistent : BI.Persistent (records m K) := by unfold records; infer_instance

/-- What is a device's alone: its positions and the tokens it pays with. -/
def linear : sProp 𝕄 := iprop((bigSep Finset.univ fun k : Fin 64 => atPos ER (kcell (c, k)) 0 ∅ 0) ∗ payToks c)

def G' : sProp 𝕄 := iprop(∃ K, records m K ∗ linear c)

theorem ghost_intro : iprop(records m K ∗ linear c) ⊢ G' m c := by
  unfold G'
  iintro ⟨HR, Hl⟩
  iexists K
  isplitl [HR] <;> iassumption

theorem with_records {Φ Ψ : Dev nD → sProp 𝕄} (h : ∀ i ∈ (Finset.univ : Finset (Dev nD)), iprop(records m K ∗ Φ i) ⊢ Ψ i) :
    iprop(records m K ∗ bigSep Finset.univ Φ) ⊢ bigSep Finset.univ Ψ :=
  (sep_mono_left (BI.bigSep_of_persistent Finset.univ (records m K))).trans (by rw [← bigSep_sep']; exact bigSep_mono h)

theorem linear_intro : iprop((bigSep Finset.univ fun c : Dev nD => bigSep Finset.univ fun k : Fin 64 => atPos ER (kcell (c, k)) 0 ∅ 0) ∗ bigSep Finset.univ fun c : Dev nD => toks c)
    ⊢ (bigSep Finset.univ fun c : Dev nD => linear c : sProp 𝕄) := by
  unfold linear
  rw [bigSep_sep']
  exact sep_mono_right (toks_around (F := F))

theorem regroup :
    (bigSep Finset.univ fun c : Dev nD => iprop((bigSep Finset.univ fun k : Fin 64 => iprop(∃ κ : ℕ, cellInv ER (sched m) κ (kcell (c, k))))
          ∗ (bigSep Finset.univ fun k : Fin 64 => iprop(atPos ER (kcell (c, k)) 0 ∅ 0 ∗ reached ER (kcell (c, k)) 0)) ∗ toks c) : sProp 𝕄)
      ⊢ bigSep Finset.univ (G' m) := by
  rw [bigSep_sep', bigSep_sep', ← BI.bigSep_univ_prod (fun p : Dev nD × Fin 64 => iprop(∃ κ : ℕ, cellInv ER (sched m) κ (kcell p))),
    bigSep_congr (s := Finset.univ) (fun (c : Dev nD) _ => bigSep_sep' Finset.univ (fun k : Fin 64 => (atPos ER (kcell (c, k)) 0 ∅ 0 : sProp 𝕄)) (fun k => reached ER (kcell (c, k)) 0)),
    bigSep_sep', ← BI.bigSep_univ_prod (fun p : Dev nD × Fin 64 => (reached ER (kcell p) 0 : sProp 𝕄))]
  iintro ⟨HI, ⟨Hat, #HR⟩, Htok⟩
  ihave HK := (BI.bigSep_exists_pi Finset.univ (fun (p : Dev nD × Fin 64) (κ : ℕ) => (cellInv ER (sched m) κ (kcell p) : sProp 𝕄))) $$ HI
  icases HK with ⟨%K, #HI⟩
  ihave Hl := (linear_intro (F := F)) $$ [Hat Htok]
  · isplitl [Hat] <;> iassumption
  iapply (with_records m K fun c _ => ghost_intro m K c)
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Before and after the body -/

/-- What a device starts with beside its buffers. -/
def X : sProp 𝕄 :=
  iprop(G' m c ∗ levAts L lv ∗ (cred (tallyAt (barCell c) () 2) ∗ bigSep Finset.univ fun j : Fin 28 => cred (tallyAt (recvCell c j) () (Nx j))) ∗ args m c)
def Φ₀ : sProp 𝕄 := iprop(X m c ∗ scr c)
def Φ₁ : sProp 𝕄 := iprop(semVal (barCell c) 0 ∗ zeros c ∗ scr c ∗ args m c)
def Y : sProp 𝕄 := iprop(unscopedSems0 c ∗ args m c)

/-- What the body leaves in the result's buffer. -/
def outAt : S512x128.Idx → Elt F .bf16 := unrot (k0_pay11 (hid m c) (lWo m 2 c)) c

def dats (_ : Fin 1) (c : Dev nD) : Dat τ (Elt F) Unit ℕ UU ℕ cfg0 c where
  A w := (s₀ m ρ).mem ((cfg0.win w).arr.view.loc (c : Thread nD τ))
  after w _ := match w with | ⟨0, _⟩ => outAt m c
  Φ t := match t with | ⟨0, _⟩ => Φ₀ m c | ⟨_ + 1, _⟩ => Φ₁ m c
  q _ := fullShare
  owed t := match t with | ⟨0, _⟩ => O₀ c | ⟨_ + 1, _⟩ => 0

theorem share_eq (w : Fin cfg0.W) : (dats m ρ 0 c).share w = fullShare := by unfold Dat.share; split <;> rfl

theorem owns_whole_eq (b : Ref sig .tc) (Z : b.ty.Contents (Elt F)) :
    (owns (Ix := Unit) (Name := ℕ) (U := UU) (Lvl := ℕ) (c : Thread nD τ) (Memref.whole b) fullShare Z : sProp 𝕄)
      = iprop(∃ f : Buf (Elt F) ((c : Thread nD τ).loc b), ⌜f = Z⌝ ∗ ((c : Thread nD τ).loc b ↦{fullShare} f)) := by
  unfold owns; simp only [Memref.view_whole, View.read_whole, View.set_whole]

/-- A buffer holding `Z`. -/
def stg (b : Ref sig .tc) (Z : b.ty.Contents (Elt F)) : sProp 𝕄 :=
  iprop(∃ f : Buf (Elt F) ((c : Thread nD τ).loc b), ⌜f = Z⌝ ∗ ((c : Thread nD τ).loc b ↦{fullShare} f))

def bodyPre : sProp 𝕄 :=
  iprop(Φ₀ m c ∗ (dats m ρ 0 c).owesAt () t0_0.castSucc ∗ (∃ d, stg c cc0_stg0_0 ((dats m ρ 0 c).before (0 : Fin 1) t0_0 d)))
def bodyPost : sProp 𝕄 :=
  iprop(Φ₁ m c ∗ (dats m ρ 0 c).owesAt () t0_0.succ ∗ stg c cc0_stg0_0 (outAt m c))

/-- A device's ghost state, opened for its body. -/
theorem begin : X m c ⊢ iprop((∃ K, Rec m K) ∗ Start c ∗ args m c) := by
  unfold X G' linear payToks Start records Rec
  rw [by_cell]
  simp only [kcell_bar, kcell_copy, kcell_send, kcell_recv]
  iintro ⟨⟨%K, ⟨HI, HR⟩, ⟨HaB, HaC, HaS, HaR⟩, ⟨HtP, HtN⟩, HtC, HtS, HtR⟩, Hlev, ⟨HcB, HcR⟩, Hargs⟩
  isplitl [HI HR Hlev]
  · iexists K
    isplitl [Hlev]; · iexact Hlev
    isplitl [HI] <;> iassumption
  isplitr [Hargs]
  · isplitl [HtP HtN HcB HaB]
    · isplitl [HtP]; · iexact HtP
      isplitl [HtN]; · iexact HtN
      isplitl [HcB] <;> iassumption
    isplitl [HtS HtR HaS]
    · isplitl [HtS]; · iexact HtS
      isplitl [HtR] <;> iassumption
    isplitl [HcR HaR]
    · isplitl [HcR] <;> iassumption
    isplitl [HtC] <;> iassumption
  · iexact Hargs

/-- The end of the body is the point's postcondition. -/
theorem finish (f : Buf (Elt F) ((c : Thread nD τ).loc cc0_stg0_0)) :
    World m K c 3 28 28 28 28 7 7 7 (putAll (hid m c) (lWo m 2 c) c f) ⊢ bodyPost m ρ c := by
  rw [putAll_eq]
  refine (leave m K c _).trans ?_
  unfold bodyPost Φ₁ Dat.owesAt Pipeline.owesWithin stg outPts
  rw [show (dats m ρ 0 c).owed t0_0.succ = 0 from rfl]
  iintro ⟨HΦ, ⟨%W, HO⟩, Hout⟩
  isplitl [HΦ]; · iexact HΦ
  isplitl [HO]
  · iexists W
    isplitr; · ipureintro; exact fun _ _ => Or.inl trivial
    iexact HO
  · iexists _
    isplitr; · ipureintro; rfl
    iexact Hout

/-- The body on a device, from its launch state. -/
theorem sound_body : bodyPre m ρ c ⊢ Wp c (onBufs (cc0_body (F := F))) (fun _ => bodyPost m ρ c) := by
  unfold bodyPre Φ₀ Dat.owesAt Pipeline.owesWithin stg
  rw [show (dats m ρ 0 c).owed t0_0.castSucc = O₀ c from rfl]
  iintro ⟨⟨HX, Hscr⟩, ⟨%W, %hW, HO⟩, ⟨%d, %f, -, Hout⟩⟩
  ihave HX := (begin m c) $$ HX
  icases HX with ⟨⟨%K, HR⟩, HS, Hargs⟩
  iapply ((enter m K c f).trans (body_all m K c (Q := fun _ => bodyPost m ρ c) (finish m ρ K c f)))
  isplitl [HR]; · iexact HR
  isplitl [HS]; · iexact HS
  isplitl [Hargs]; · iexact Hargs
  isplitl [Hscr]; · iexact Hscr
  isplitl [HO]; · iexists W; iexact HO
  unfold outPts
  iexact Hout

set_option maxRecDepth 20000 in
/-- The pipeline's obligation on the body. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (onBufs (cc0_body (F := F))) (fun _ => bodyPost m ρ c)
  exact sound_body m ρ c

/-! ## The side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨Hargs, Hlev, Hcr, -, HG⟩
  ihave Hc := (creds (F := F) c) $$ Hcr
  imodintro
  unfold X args argP
  isplitl
  · isplitl [HG]; · iexact HG
    isplitl [Hlev]; · iexact Hlev
    isplitl [Hc]; · iexact Hc
    iexact Hargs
  · iempintro

theorem phi0_intro :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨HX, -, Hscr⟩
  isplitl [HX] <;> iassumption

theorem phi1_exit :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ Y scr
  rw [unscopedSems0_eq]
  iintro ⟨HB, Hz, Hscr, Hargs⟩
  isplitl [HB Hargs]
  · isplitl [HB] <;> iassumption
  isplitl [Hz] <;> iassumption

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The seven argument arrays. -/
abbrev argRef (a : Fin 7) : Ref sig .tc := match a with
  | 0 => main_arg0 | 1 => main_arg1 | 2 => main_arg2 | 3 => main_arg3 | 4 => main_arg4 | 5 => main_arg5 | 6 => main_arg6

theorem args_all : args m c = bigSep Finset.univ fun a : Fin 7 => ((c : Thread nD τ).loc (argRef a) ↦{fullShare} m ((c : Thread nD τ).loc (argRef a)) : sProp 𝕄) := by
  rw [bigSep_univ_eq_bigSepL [0, 1, 2, 3, 4, 5, 6] (by decide) (by decide)]
  rfl

/-- What is read off a device's last holdings: its barrier semaphore at zero, its arguments unchanged. -/
def QY (c : Dev nD) (s : MemSt nD τ sig (Elt F)) : Prop :=
  (∀ sm : SemLoc sig, sm.isScoped .tc = false → s.sem ((c.tc : Thread nD τ), sm) = 0)
    ∧ ∀ a : Fin 7, s.mem ((c : Thread nD τ).loc (argRef a)) = m ((c : Thread nD τ).loc (argRef a))

theorem last_read (s' : Phys nD τ sig (Elt F)) : iprop(Y m c ∗ emp ∗ SI s') ⊢ |={Set.univ}=> iprop(⌜QY m c s'.mem⌝ ∗ SI s') := by
  unfold Y
  rw [args_all]
  iintro ⟨⟨Hu, Ha⟩, -, HSI⟩
  ihave H := (pointsTo_read_all (Ix := Unit) (Name := ℕ) (U := UU) (Lvl := ℕ) Finset.univ (fun a : Fin 7 => (c : Thread nD τ).loc (argRef a)) (fun a => m ((c : Thread nD τ).loc (argRef a))) s') $$ [Ha HSI]
  · isplitl [Ha] <;> iassumption
  icases H with ⟨%ha, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, fun a => ha a (Finset.mem_univ a)⟩
  · iexact HSI

/-! ## The run -/

/-- What a window's array ends in. -/
def finalA (w : Fin cfg0.W) : Buf (Elt F) ((cfg0.win w).arr.view.loc (c : Thread nD τ)) := (dats m ρ 0 c).arrAt w cfg0.N

set_option maxRecDepth 8000 in
/-- From any memory with every counter at zero, for any float values, every run of the program on the four devices ends,
    the result's array at the computed contents, the arguments unchanged and every counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ ∀ a : Fin 7, r.2.mem ((c : Thread nD τ).loc (argRef a)) = m ((c : Thread nD τ).loc (argRef a))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := QY m) (hY := last_read m)
    (hQ := fun _ h hs => ⟨fun c => ⟨(h c).1, (h c).2.2.2⟩, sem_eq_zero hs fun c => (h c).2.2.1⟩)

end Cert.Gather

end
-- ==== Proof.FrameK.lean ====
/-
The frames of the kernel as printed and of the kernel read at the ideal values, from the one run.
-/
module

public import proofs.«01_k».proof.Proof.Launch
public import proofs.«01_k».proof.Defs
public import proofs.«01_k».proof.Proof.Gen.Kernel

@[expose] public section

noncomputable section

namespace Cert.Gather

open Idealize.ShloMosaic Idealize.SL.Sem

/-- The kernel at the ideal values runs to the end, faultless, its arguments unchanged, every counter back at zero. -/
theorem frame_ideal : Cert.quiescent_KernelIdeal := fun m g _ =>
  (θ_run Cert.KernelIdeal.defs _ _).mono (fun _ h => ⟨fun c => ⟨(h.1 c).2 0, (h.1 c).2 1, (h.1 c).2 2, (h.1 c).2 3, (h.1 c).2 4, (h.1 c).2 5, (h.1 c).2 6⟩, h.2⟩) (run_main (F := Ideal) m g)

set_option maxRecDepth 20000 in
/-- The two printed texts of the kernel's body are one. -/
theorem same_body : Cert.Kernel.cc0_body (F := Bits) = Cert.KernelIdeal.cc0_body (F := Bits) := rfl

set_option maxRecDepth 20000 in
/-- So are the bodies under their label; -/
theorem same_defs₀ : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

set_option maxRecDepth 20000 in
/-- and the programs' definitions. -/
theorem same_defs : Cert.Kernel.defs (F := Bits) = Cert.KernelIdeal.defs (F := Bits) :=
  congrArg (Pipeline.defs Cert.KernelIdeal.pcfgs) same_defs₀

/-- What a run ends in, the result aside: the arguments unchanged, every counter at zero. -/
abbrev Quiet (m : (ℓ : Loc Cert.Kernel.nD Cert.Kernel.τ Cert.Kernel.sig) → Buf (Elt Bits) ℓ)
    (r : PUnit × MemSt Cert.Kernel.nD Cert.Kernel.τ Cert.Kernel.sig (Elt Bits)) : Prop :=
  (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
    ∧ r.2.sem = fun _ => 0

/-- The one run, at the machine's floats. -/
theorem quiet_run (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (Quiet m) :=
  (θ_run Cert.KernelIdeal.defs _ _).mono (fun _ h => ⟨fun c => ⟨(h.1 c).2 0, (h.1 c).2 1, (h.1 c).2 2, (h.1 c).2 3, (h.1 c).2 4, (h.1 c).2 5, (h.1 c).2 6⟩, h.2⟩) (run_main (F := Bits) m g)

set_option maxRecDepth 20000 in
/-- The kernel at the machine's floats does too. -/
theorem frame_bits : Cert.quiescent_Kernel := fun m g _ =>
  (congrArg (fun D => θ_run D (onTc (τ := Cert.KernelIdeal.τ) (Cert.KernelIdeal.main (F := Bits))) ⟨m, fun _ => 0, g⟩ (Quiet m)) same_defs).mpr (quiet_run m g)

end Cert.Gather

end
-- ==== Proof.Math.lean ====
/-
The mathematics of a layer over the extended reals: what it does to an array, and that it may be computed with its rows
rotated and its hidden units in any order.
-/
module

public import proofs.«01_k».proof.Proof.Contents

@[expose] public section

noncomputable section

namespace Cert.Gather

open Cert.KernelIdeal Cert.KernelIdeal.Gen
open Idealize.ShloMosaic hiding ix2 ix3
open Idealize.ShloMosaic.ValueIdx

/-- A layer's hidden units: the rows times the first weights, cut off at zero. -/
def hidden (h : S512x128.Idx → EReal) (wi : S128x1024.Idx → EReal) : S512x1024.Idx → EReal := fun i =>
  max (∑ j : Fin 128, h (ix2 (n0 := 512) (i 0) j) * wi (ix2 (n1 := 1024) j (i 1))) 0

/-- The hidden units times the second weights. -/
def back (u : S512x1024.Idx → EReal) (wo : S1024x128.Idx → EReal) : S512x128.Idx → EReal := fun i =>
  ∑ k : Fin 1024, u (ix2 (n0 := 512) (i 0) k) * wo (ix2 (n1 := 128) k (i 1))

/-- A layer. -/
def layer (h : S512x128.Idx → EReal) (wi : S128x1024.Idx → EReal) (wo : S1024x128.Idx → EReal) : S512x128.Idx → EReal :=
  back (hidden h wi) wo

/-- The rows taken in the order `f`. -/
def rows (f : Fin 512 → Fin 512) (h : S512x128.Idx → EReal) : S512x128.Idx → EReal := fun i => h (ix2 (f (i 0)) (i 1))
/-- The first weights' columns, the second's rows, taken in the order `e`. -/
def cols (e : Fin 1024 → Fin 1024) (w : S128x1024.Idx → EReal) : S128x1024.Idx → EReal := fun i => w (ix2 (i 0) (e (i 1)))
def lines (e : Fin 1024 → Fin 1024) (w : S1024x128.Idx → EReal) : S1024x128.Idx → EReal := fun i => w (ix2 (e (i 0)) (i 1))

/-- A layer of rows in another order is the layer's rows in that order. -/
theorem layer_rows (f : Fin 512 → Fin 512) (h : S512x128.Idx → EReal) (wi : S128x1024.Idx → EReal) (wo : S1024x128.Idx → EReal) :
    layer (rows f h) wi wo = rows f (layer h wi wo) := rfl

/-- A layer whose hidden units are taken in another order is the layer. -/
theorem layer_cols (e : Fin 1024 ≃ Fin 1024) (h : S512x128.Idx → EReal) (wi : S128x1024.Idx → EReal) (wo : S1024x128.Idx → EReal) :
    layer h (cols e wi) (lines e wo) = layer h wi wo := by
  funext i
  exact Equiv.sum_comp e fun k => hidden h wi (ix2 (n0 := 512) (i 0) k) * wo (ix2 (n1 := 128) k (i 1))

/-- The rotation by `s` places of `n`, and its inverse. -/
def rot (n : ℕ) (hn : 0 < n) (s : ℕ) (k : Fin n) : Fin n := ⟨(k.val + s) % n, Nat.mod_lt _ hn⟩
theorem rot_rot (n : ℕ) (hn : 0 < n) (s t : ℕ) (h : s + t = n) (k : Fin n) : rot n hn s (rot n hn t k) = k := by
  apply Fin.ext
  show ((k.val + t) % n + s) % n = k.val
  rw [Nat.mod_add_mod, Nat.add_assoc, Nat.add_comm t s, h, Nat.add_mod_right, Nat.mod_eq_of_lt k.isLt]
def rotE (n : ℕ) (hn : 0 < n) (s t : ℕ) (h : s + t = n) : Fin n ≃ Fin n :=
  ⟨rot n hn s, rot n hn t, rot_rot n hn t s (by omega), rot_rot n hn s t h⟩

/-- The three layers. -/
def net (x : S512x128.Idx → EReal) (wi : Fin 3 → S128x1024.Idx → EReal) (wo : Fin 3 → S1024x128.Idx → EReal) : S512x128.Idx → EReal :=
  layer (layer (layer x (wi 0) (wo 0)) (wi 1) (wo 1)) (wi 2) (wo 2)

/-- The three layers of the rows in another order, the hidden units in another, are the layers' rows in that order. -/
theorem net_around (f : Fin 512 → Fin 512) (e : Fin 1024 ≃ Fin 1024) (x : S512x128.Idx → EReal) (wi : Fin 3 → S128x1024.Idx → EReal) (wo : Fin 3 → S1024x128.Idx → EReal) :
    net (rows f x) (fun l => cols e (wi l)) (fun l => lines e (wo l)) = rows f (net x wi wo) := by
  unfold net
  rw [layer_cols, layer_cols, layer_cols, layer_rows, layer_rows, layer_rows]

end Cert.Gather

end
-- ==== Proof.Ref.lean ====
/-
The reference's run, and its result as the three layers.
-/
module

public import proofs.«01_k».proof.Proof.Math
public import proofs.«01_k».proof.Defs
public import proofs.«01_k».proof.Proof.Gen.ReferenceIdeal.Run
public import Idealize.ShloMosaic.Lib.StackMember

@[expose] public section

noncomputable section

namespace Cert.Gather

open Cert.ReferenceIdeal Cert.ReferenceIdeal.Gen
open Idealize.ShloMosaic hiding ix2 ix3
open Idealize.ShloMosaic.ValueIdx
open Idealize.SL Idealize.SL.Sem

/-- The reference runs to the end, its arguments unchanged; it has no counter. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The first product, cut at zero, is the hidden units; -/
theorem ref_hidden (h : S512x128.Idx → EReal) (w : S128x1024.Idx → EReal) :
    maximumf (F := Ideal) (φ := .f32) (Host.dotGeneral (F := Ideal) (φ₁ := .f32) (φ₂ := .f32) dot_S512x128_S128x1024_S512x1024_1_0_0_1_n_n none h w) (broadcastInDim S512x1024 ![] bcast_S_S512x1024 (constant S_ .f32 0x00000000#32))
      = hidden h w := by
  funext i
  obtain ⟨r, q, rfl⟩ : ∃ (r : Fin 512) (q : Fin 1024), i = ix2 r q := ⟨i 0, i 1, ValueIdx.eq_ix2 i⟩
  show max (Host.dotGeneral (F := Ideal) (φ₁ := .f32) (φ₂ := .f32) (DotDims.plain 512 128 1024) none h w (ix2 r q)) (Ideal.ofBits .f32 0x00000000#32) = _
  rw [StackMember.dotGeneral_plain_apply, Ideal.ofBits_zero_f32]
  rfl

/-- the second product is the way back. -/
theorem ref_back (u : S512x1024.Idx → EReal) (w : S1024x128.Idx → EReal) :
    Host.dotGeneral (F := Ideal) (φ₁ := .f32) (φ₂ := .f32) dot_S512x1024_S1024x128_S512x128_1_0_0_1_n_n none u w = back u w := by
  funext i
  obtain ⟨r, q, rfl⟩ : ∃ (r : Fin 512) (q : Fin 128), i = ix2 r q := ⟨i 0, i 1, ValueIdx.eq_ix2 i⟩
  show Host.dotGeneral (F := Ideal) (φ₁ := .f32) (φ₂ := .f32) (DotDims.plain 512 1024 128) none u w (ix2 r q) = _
  rw [StackMember.dotGeneral_plain_apply]
  rfl

/-- The whole arrays of the reference's memory: the rows, and each layer's two weights. -/
abbrev refX (m : (ℓ : Loc nD τ sig) → Buf (Elt Ideal) ℓ) : S512x128.Idx → EReal := m (((0 : Dev nD).tc : Thread nD τ).loc main_arg0)
abbrev refI (m : (ℓ : Loc nD τ sig) → Buf (Elt Ideal) ℓ) (l : Fin 3) : S128x1024.Idx → EReal := match l with
  | 0 => m (((0 : Dev nD).tc : Thread nD τ).loc main_arg1)
  | 1 => m (((0 : Dev nD).tc : Thread nD τ).loc main_arg3)
  | 2 => m (((0 : Dev nD).tc : Thread nD τ).loc main_arg5)
abbrev refO (m : (ℓ : Loc nD τ sig) → Buf (Elt Ideal) ℓ) (l : Fin 3) : S1024x128.Idx → EReal := match l with
  | 0 => m (((0 : Dev nD).tc : Thread nD τ).loc main_arg2)
  | 1 => m (((0 : Dev nD).tc : Thread nD τ).loc main_arg4)
  | 2 => m (((0 : Dev nD).tc : Thread nD τ).loc main_arg6)

/-- The reference's result is the three layers of them. -/
theorem ref_net (x : S512x128.Idx → EReal) (i₀ : S128x1024.Idx → EReal) (o₀ : S1024x128.Idx → EReal) (i₁ : S128x1024.Idx → EReal) (o₁ : S1024x128.Idx → EReal) (i₂ : S128x1024.Idx → EReal) (o₂ : S1024x128.Idx → EReal) :
    truncf (F := Ideal) (φ := .f32) .bf16 (Host.dotGeneral (F := Ideal) (φ₁ := .f32) (φ₂ := .f32) dot_S512x1024_S1024x128_S512x128_1_0_0_1_n_n none
      (maximumf (F := Ideal) (φ := .f32) (Host.dotGeneral (F := Ideal) (φ₁ := .f32) (φ₂ := .f32) dot_S512x128_S128x1024_S512x1024_1_0_0_1_n_n none
        (Host.dotGeneral (F := Ideal) (φ₁ := .f32) (φ₂ := .f32) dot_S512x1024_S1024x128_S512x128_1_0_0_1_n_n none
          (maximumf (F := Ideal) (φ := .f32) (Host.dotGeneral (F := Ideal) (φ₁ := .f32) (φ₂ := .f32) dot_S512x128_S128x1024_S512x1024_1_0_0_1_n_n none
            (Host.dotGeneral (F := Ideal) (φ₁ := .f32) (φ₂ := .f32) dot_S512x1024_S1024x128_S512x128_1_0_0_1_n_n none
              (maximumf (F := Ideal) (φ := .f32) (Host.dotGeneral (F := Ideal) (φ₁ := .f32) (φ₂ := .f32) dot_S512x128_S128x1024_S512x1024_1_0_0_1_n_n none x i₀)
                (broadcastInDim S512x1024 ![] bcast_S_S512x1024 (constant S_ .f32 0x00000000#32))) o₀) i₁)
            (broadcastInDim S512x1024 ![] bcast_S_S512x1024 (constant S_ .f32 0x00000000#32))) o₁) i₂)
        (broadcastInDim S512x1024 ![] bcast_S_S512x1024 (constant S_ .f32 0x00000000#32))) o₂) bitsLt_bf16_f32
      = layer (layer (layer x i₀ o₀) i₁ o₁) i₂ o₂ := by
  rw [ref_hidden, ref_back, ref_hidden, ref_back, ref_hidden, ref_back]
  rfl

/-- So does its run end, its arguments unchanged. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v12) = net (refX m) (refI m) (refO m)
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4)
      ∧ r.2.mem (((0 : Dev nD).tc : Thread nD τ).loc main_arg5) = m (((0 : Dev nD).tc : Thread nD τ).loc main_arg5)
      ∧ r.2.mem (((0 : Dev nD).tc : Thread nD τ).loc main_arg6) = m (((0 : Dev nD).tc : Thread nD τ).loc main_arg6)) :=
  (θ_run defs _ _).mono (fun _ h => ⟨(h 0).1.trans (ref_net _ _ _ _ _ _ _), (h 0).2⟩) (Cert.ReferenceIdeal.Value.run (F := Ideal) m g)

end Cert.Gather

end
-- ==== Proof.Value.lean ====
/-
What a device computes at the ideal values: the three layers of the whole arrays, whatever the order in which its rows
and hidden units were gathered.
-/
module

public import proofs.«01_k».proof.Proof.Launch
public import proofs.«01_k».proof.Proof.Math
public import Idealize.ShloMosaic.Lib.MatmulPlain
public import Idealize.ShloMosaic.Lib.Layout

@[expose] public section

noncomputable section

namespace Cert.Gather

open Cert.KernelIdeal Cert.KernelIdeal.Gen
open Idealize.ShloMosaic hiding ix2 ix3
open Idealize.ShloMosaic.ValueIdx
open Idealize.ShloMosaic.TcCoe
open Idealize.SL Idealize.SL.Sem

/-! ## The kernel's operations -/

/-- A block of one layer as a matrix. -/
def matI (w : S1x128x1024.Idx → EReal) : S128x1024.Idx → EReal := fun i => w (ix3 (0 : Fin 1) (i 0) (i 1))
def matO (w : S1x1024x128.Idx → EReal) : S1024x128.Idx → EReal := fun i => w (ix3 (0 : Fin 1) (i 0) (i 1))

theorem dot_in : dot_S512x128_S128x1024_S512x1024_1_0_0_1_n_n = DotDims.plain 512 128 1024 := rfl
theorem dot_out : dot_S512x1024_S1024x128_S512x128_1_0_0_1_n_n = DotDims.plain 512 1024 128 := rfl

/-- The first half of a layer as the kernel computes it is the hidden units; -/
theorem pay_hidden (h : S512x128.Idx → EReal) (w : S1x128x1024.Idx → EReal) : k0_pay10 (F := Ideal) h w = hidden h (matI w) := by
  funext i
  obtain ⟨r, q, rfl⟩ : ∃ (r : Fin 512) (q : Fin 1024), i = ix2 r q := ⟨i 0, i 1, ValueIdx.eq_ix2 i⟩
  show max (FloatOps.matmul (F := Ideal) (φ₁ := .bf16) (φ₂ := .bf16) dot_S512x128_S128x1024_S512x1024_1_0_0_1_n_n none h (shapeCast S128x1024 w shapeCasts_S1x128x1024_S128x1024)
    (constant S512x1024 .f32 0x00000000#32) (ix2 r q)) (Ideal.ofBits .f32 0x00000000#32) = _
  rw [dot_in, Ideal.matmul_plain_apply, constant_apply, Ideal.ofBits_zero_f32, zero_add]
  refine congrArg (max · 0) (Finset.sum_congr rfl fun k _ => ?_)
  rw [shapeCast_1ab_ab_apply]
  rfl

/-- the second half the product with the second weights; -/
theorem pay_back (u : S512x1024.Idx → EReal) (w : S1x1024x128.Idx → EReal) : k0_pay11 (F := Ideal) u w = back u (matO w) := by
  funext i
  obtain ⟨r, q, rfl⟩ : ∃ (r : Fin 512) (q : Fin 128), i = ix2 r q := ⟨i 0, i 1, ValueIdx.eq_ix2 i⟩
  show FloatOps.matmul (F := Ideal) (φ₁ := .bf16) (φ₂ := .bf16) dot_S512x1024_S1024x128_S512x128_1_0_0_1_n_n none u (shapeCast S1024x128 w shapeCasts_S1x1024x128_S1024x128)
    (constant S512x128 .f32 0x00000000#32) (ix2 r q) = _
  rw [dot_out, Ideal.matmul_plain_apply, constant_apply, Ideal.ofBits_zero_f32, zero_add]
  refine Finset.sum_congr rfl fun k _ => ?_
  rw [shapeCast_1ab_ab_apply]
  rfl

/-- and the first two layers are layers. -/
theorem pay_layer (h : S512x128.Idx → EReal) (w : S1x128x1024.Idx → EReal) (w' : S1x1024x128.Idx → EReal) :
    k0_pay8 (F := Ideal) h w w' = layer h (matI w) (matO w') := by
  show k0_pay11 (F := Ideal) (k0_pay10 (F := Ideal) h w) w' = _
  rw [pay_hidden, pay_back]
  rfl
theorem pay_layer' (h : S512x128.Idx → EReal) (w : S1x128x1024.Idx → EReal) (w' : S1x1024x128.Idx → EReal) :
    k0_pay9 (F := Ideal) h w w' = layer h (matI w) (matO w') := by
  show k0_pay11 (F := Ideal) (k0_pay10 (F := Ideal) h w) w' = _
  rw [pay_hidden, pay_back]
  rfl

/-! ## The gathered arrays -/

variable (m : (ℓ : Loc nD τ sig) → Buf (Elt Ideal) ℓ) (c : Dev nD)
variable (x : S512x128.Idx → EReal) (wi : Fin 3 → S128x1024.Idx → EReal) (wo : Fin 3 → S1024x128.Idx → EReal)

/-- The devices' blocks are the whole arrays'. -/
structure Blocks : Prop where
  x : ∀ c : Dev nD, ax m c = Layout.block S128x128 S512x128 0 4 c x
  wi : ∀ (l : Fin 3) (c : Dev nD), awi m l c = Layout.block S128x256 S128x1024 1 4 c (wi l)
  wo : ∀ (l : Fin 3) (c : Dev nD), awo m l c = Layout.block S256x128 S1024x128 0 4 c (wo l)

/-- The order in which a device gathers: from its own block on. -/
abbrev turnX : Fin 512 → Fin 512 := rot 512 (by decide) (128 * c.val)
abbrev turnW : Fin 1024 ≃ Fin 1024 := rotE 1024 (by decide) (256 * c.val) (256 * (4 - c.val)) (by have : c.val < 4 := c.isLt; omega)

variable {m x wi wo}

/-- The gathered rows are the whole array's from the device's own on; -/
theorem gX_rows (h : Blocks m x wi wo) : gX m c = rows (turnX c) x := by
  funext i
  show ax m (dv c ((i 0).val / 128)) (ix2 _ (i 1)) = x _
  rw [h.x]
  refine congrArg x (funext fun a => Fin.ext ?_)
  have hi : (i 0).val < 512 := (i 0).isLt
  have hc : c.val < 4 := c.isLt
  match a with
  | ⟨0, _⟩ =>
    show (c.val + (i 0).val / 128) % 4 * 128 + (i 0).val % 128 = ((i 0).val + 128 * c.val) % 512
    omega
  | ⟨1, _⟩ => rfl
/-- a layer's first weights have their columns in that order, -/
theorem lWi_cols (h : Blocks m x wi wo) (l : Fin 3) : matI (lWi m l c) = cols (turnW c) (wi l) := by
  funext i
  show awi m l (dv c ((i 1).val / 256)) (ix2 (i 0) _) = wi l _
  rw [h.wi]
  refine congrArg (wi l) (funext fun a => Fin.ext ?_)
  have hi : (i 1).val < 1024 := (i 1).isLt
  have hc : c.val < 4 := c.isLt
  match a with
  | ⟨0, _⟩ => rfl
  | ⟨1, _⟩ =>
    show (c.val + (i 1).val / 256) % 4 * 256 + (i 1).val % 256 = ((i 1).val + 256 * c.val) % 1024
    omega
/-- its second weights their rows. -/
theorem lWo_lines (h : Blocks m x wi wo) (l : Fin 3) : matO (lWo m l c) = lines (turnW c) (wo l) := by
  funext i
  show awo m l (dv c ((i 0).val / 256)) (ix2 _ (i 1)) = wo l _
  rw [h.wo]
  refine congrArg (wo l) (funext fun a => Fin.ext ?_)
  have hi : (i 0).val < 1024 := (i 0).isLt
  have hc : c.val < 4 := c.isLt
  match a with
  | ⟨0, _⟩ =>
    show (c.val + (i 0).val / 256) % 4 * 256 + (i 0).val % 256 = ((i 0).val + 256 * c.val) % 1024
    omega
  | ⟨1, _⟩ => rfl

/-- Putting the rows back undoes their order. -/
theorem unrot_rows (z : S512x128.Idx → EReal) : unrot (F := Ideal) (rows (turnX c) z) c = z := by
  funext i
  show z _ = z i
  refine congrArg z (funext fun a => Fin.ext ?_)
  have hi : (i 0).val < 512 := (i 0).isLt
  have hc : c.val < 4 := c.isLt
  match a with
  | ⟨0, _⟩ =>
    show (((i 0).val + 128 * (4 - c.val)) % 512 + 128 * c.val) % 512 = (i 0).val
    omega
  | ⟨1, _⟩ => rfl

/-- Every device's result is the three layers of the whole arrays. -/
theorem out_net (h : Blocks m x wi wo) : outAt m c = net x wi wo := by
  unfold outAt hid
  rw [pay_back, pay_hidden, pay_layer', pay_layer, gX_rows c h, lWi_cols c h, lWi_cols c h, lWi_cols c h, lWo_lines c h, lWo_lines c h, lWo_lines c h]
  show unrot (F := Ideal) (net (rows (turnX c) x) (fun l => cols (turnW c) (wi l)) (fun l => lines (turnW c) (wo l))) c = _
  rw [net_around, unrot_rows]

end Cert.Gather

end
-- ==== Proof.Final.lean ====
/-
The result's array when a run has ended: the last stored rows, written over the whole of it at once.
-/
module

public import proofs.«01_k».proof.Proof.Launch
public import proofs.«01_k».proof.Proof.Gen.KernelIdeal.Points
public import Idealize.ShloMosaic.Lib.Pipeline.Value

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg) (c : Dev nD)

/-- The one write-back writes the computed rows; -/
theorem flushed_out (t : Fin cfg0.N) :
    (dats m ρ 0 c).flushed 0 t = ((cfg0.win 0).blk t).view.read (Elt F) (outAt m c) := by
  obtain rfl := fin_N0 t
  have ha : (dats m ρ 0 c).after 0 t0_0 = outAt m c := rfl
  unfold Pipeline.Dat.flushed
  rw [ha]
  generalize outAt m c = z
  have h0 : ∀ a : Fin 2, win0_0.index t0_0 a * win0_0.size a = 0 := by decide +kernel
  funext i
  show z _ = z _
  refine congrArg z (funext fun a => Fin.ext ?_)
  show (i a : Nat) = win0_0.index t0_0 a * win0_0.size a + 1 * (i a : Nat)
  rw [h0, Nat.zero_add, Nat.one_mul]

/-- and its block is the whole array. -/
theorem covered (i : S512x128.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  have hs : ∀ a : Fin 2, win0_0.index t0_0 a * win0_0.size a = 0 ∧ win0_0.xsize (grid0.coords t0_0) a = S512x128.size a := by decide +kernel
  intro a
  show win0_0.index t0_0 a * win0_0.size a ≤ (i a : Nat) ∧ (i a : Nat) < win0_0.index t0_0 a * win0_0.size a + win0_0.xsize (grid0.coords t0_0) a
  rw [(hs a).1, (hs a).2]
  exact ⟨Nat.zero_le _, (Nat.zero_add _).symm ▸ (i a).isLt⟩

/-- So the array ends holding them. -/
theorem final_out : finalA m ρ c 0 = outAt m c :=
  (dats m ρ 0 c).arrAt_eq_of_cover 0 (outAt m c) (fun t _ => flushed_out m ρ c t) covered

end Cert.Gather

end
-- ==== Proof.Agree.lean ====
/-
The kernel's four devices and the reference agree: every device's result is the reference's, at the ideal values.
-/
module

public import proofs.«01_k».proof.Proof.Value
public import proofs.«01_k».proof.Proof.Final
public import proofs.«01_k».proof.Proof.Ref

@[expose] public section

noncomputable section

namespace Cert.Gather

open Idealize.ShloMosaic Idealize.SL.Sem

/-- Both run, and every device's result is the reference's. -/
theorem agree : Cert.algebraic_KernelIdeal_ReferenceIdeal := fun m g m' g' _ hm => by
  have hb : Blocks m (refX m') (refI m') (refO m') :=
    { x := fun c => (hm c).1
      wi := fun l c => match l with
        | 0 => (hm c).2.1
        | 1 => (hm c).2.2.2.1
        | 2 => (hm c).2.2.2.2.2.1
      wo := fun l c => match l with
        | 0 => (hm c).2.2.1
        | 1 => (hm c).2.2.2.2.1
        | 2 => (hm c).2.2.2.2.2.2 }
  exact ⟨net (refX m') (refI m') (refO m'),
    (θ_run Cert.KernelIdeal.defs _ _).mono (fun _ h c => ⟨((h.1 c).1 0).trans ((final_out m g c).trans (out_net c hb)),
      (h.1 c).2 0, (h.1 c).2 1, (h.1 c).2 2, (h.1 c).2 3, (h.1 c).2 4, (h.1 c).2 5, (h.1 c).2 6⟩) (run_main (F := Ideal) m g),
    run_ref m' g'⟩

end Cert.Gather

end
-- ==== Proof.lean ====
/- The claim, put together: the kernel's two frames (Proof/FrameK.lean), the reference's (Proof/Ref.lean), and the equation
   of the two programs' results (Proof/Agree.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameK
public import proofs.«01_k».proof.Proof.Ref
public import proofs.«01_k».proof.Proof.Agree

@[expose] public section

noncomputable section

namespace Cert.Proof

open Cert.Gather

/-- Every run of the kernel and of the reference ends without fault, arguments unchanged and counters at zero, and at the
    ideal values every device's result is the reference's. -/
theorem claim : Cert.Claim := ⟨Cert.Kernel.Gen.facts, Cert.KernelIdeal.Gen.facts, Cert.ReferenceIdeal.Gen.facts,
  frame_bits, frame_ideal, frame_ref, trivial, agree⟩

end Cert.Proof

end
